-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_layer_finite [hPre_first_layer_finite : Cert.Pre_first_layer_finite.Facts] (m : (ℓ : Loc Cert.KernelIdeal.nD Cert.KernelIdeal.τ Cert.KernelIdeal.sig) → Buf (Elt Ideal) ℓ) : Prop :=
  ∀ c : Dev Cert.KernelIdeal.nD,
    (Cert.Pre_first_layer_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_layer_finite [hPre_first_layer_finite : Cert.Pre_first_layer_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_layer_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_first_layer_finite [hKernelIdeal : Cert.KernelIdeal.Facts] [hPre_first_layer_finite : Cert.Pre_first_layer_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_layer_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_first_layer_finite [hReferenceIdeal : Cert.ReferenceIdeal.Facts] [hPre_first_layer_finite : Cert.Pre_first_layer_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_layer_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_first_layer_finite [hKernelIdeal : Cert.KernelIdeal.Facts] [hReferenceIdeal : Cert.ReferenceIdeal.Facts] [hPre_first_layer_finite : Cert.Pre_first_layer_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_layer_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_first_layer_finite : Cert.Pre_first_layer_finite.Facts),
    quiescent_Kernel (hKernel := hKernel)
    ∧ quiescent_KernelIdeal (hKernelIdeal := hKernelIdeal)
    ∧ quiescent_KernelIdeal_pre_first_layer_finite (hKernelIdeal := hKernelIdeal) (hPre_first_layer_finite := hPre_first_layer_finite)
    ∧ quiescent_ReferenceIdeal (hReferenceIdeal := hReferenceIdeal)
    ∧ quiescent_ReferenceIdeal_pre_first_layer_finite (hReferenceIdeal := hReferenceIdeal) (hPre_first_layer_finite := hPre_first_layer_finite)
    ∧ preserves_Kernel_KernelIdeal
    ∧ algebraic_KernelIdeal_ReferenceIdeal_pre_first_layer_finite (hKernelIdeal := hKernelIdeal) (hReferenceIdeal := hReferenceIdeal) (hPre_first_layer_finite := hPre_first_layer_finite)
-- ==== Pre_first_layer_finite.lean ====
abbrev S50000x3 : Shape := ⟨2, ![50000, 3]⟩
abbrev S800000x2 : Shape := ⟨2, ![800000, 2]⟩
abbrev S256x3 : Shape := ⟨2, ![256, 3]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S49152x1024 : Shape := ⟨2, ![49152, 1024]⟩
abbrev S49152 : Shape := ⟨1, ![49152]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S256x3 : S_.BroadcastsInDim S256x3 (![] : Fin 0 → Fin S256x3.rank)
  reducesTo_S256x3_S_d0_1 : S256x3.ReducesTo [0, 1] S_

variable [Facts]

def fn {F : FTy → Type} [FloatOps F] (main_arg0 : FVec F S50000x3 .f32) (main_arg1 : IVec S800000x2 32) (main_arg2 : FVec F S256x3 .f32) (main_arg3 : FVec F S256 .f32) (main_arg4 : FVec F S256x3 .f32) (main_arg5 : FVec F S256 .f32) (main_arg6 : FVec F S512x256 .f32) (main_arg7 : FVec F S512 .f32) (main_arg8 : FVec F S512x256 .f32) (main_arg9 : FVec F S512 .f32) (main_arg10 : FVec F S1024x512 .f32) (main_arg11 : FVec F S1024 .f32) (main_arg12 : FVec F S49152x1024 .f32) (main_arg13 : FVec F S49152 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S256x3 .f32 := Host.absf main_arg4
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  main_v8
-- ==== Kernel.lean ====
abbrev S50000x3 : Shape := ⟨2, ![50000, 3]⟩
abbrev S800000x2 : Shape := ⟨2, ![800000, 2]⟩
abbrev S256x3 : Shape := ⟨2, ![256, 3]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S49152x1024 : Shape := ⟨2, ![49152, 1024]⟩
abbrev S49152 : Shape := ⟨1, ![49152]⟩
abbrev S800000x1 : Shape := ⟨2, ![800000, 1]⟩
abbrev S800000 : Shape := ⟨1, ![800000]⟩
abbrev S_ : Shape := ⟨0, ![]⟩
abbrev S50000x1 : Shape := ⟨2, ![50000, 1]⟩
abbrev S50000x4 : Shape := ⟨2, ![50000, 4]⟩
abbrev S800000x4 : Shape := ⟨2, ![800000, 4]⟩
abbrev S3x256 : Shape := ⟨2, ![3, 256]⟩
abbrev S50000x256 : Shape := ⟨2, ![50000, 256]⟩
abbrev S1x256 : Shape := ⟨2, ![1, 256]⟩
abbrev S800000x256 : Shape := ⟨2, ![800000, 256]⟩
abbrev S256x512 : Shape := ⟨2, ![256, 512]⟩
abbrev S50000x512 : Shape := ⟨2, ![50000, 512]⟩
abbrev S1x512 : Shape := ⟨2, ![1, 512]⟩
abbrev S1x1024 : Shape := ⟨2, ![1, 1024]⟩
abbrev S1x49152 : Shape := ⟨2, ![1, 49152]⟩
abbrev S2048x1024 : Shape := ⟨2, ![2048, 1024]⟩
abbrev S1x2048 : Shape := ⟨2, ![1, 2048]⟩
abbrev S512x1024 : Shape := ⟨2, ![512, 1024]⟩
abbrev S1024x2048 : Shape := ⟨2, ![1024, 2048]⟩
abbrev S1x3x128x128 : Shape := ⟨4, ![1, 3, 128, 128]⟩
abbrev S1x3x128x4x128 : Shape := ⟨5, ![1, 3, 128, 4, 128]⟩
abbrev S1x3x512x128 : Shape := ⟨4, ![1, 3, 512, 128]⟩
abbrev S1x3x512x128x4 : Shape := ⟨5, ![1, 3, 512, 128, 4]⟩
abbrev S1x3x512x512 : Shape := ⟨4, ![1, 3, 512, 512]⟩

abbrev nBuf : Space → Nat
  | .hbm => 148
  | .vmem => 10
  | .smem => 0
  | _ => 0

abbrev hbmTy0_0 (i : Nat) : BufTy := match i % 128 with
  | 0 => ⟨S50000x3, .f32⟩
  | 1 => ⟨S800000x2, .i32⟩
  | 2 => ⟨S256x3, .f32⟩
  | 3 => ⟨S256, .f32⟩
  | 4 => ⟨S256x3, .f32⟩
  | 5 => ⟨S256, .f32⟩
  | 6 => ⟨S512x256, .f32⟩
  | 7 => ⟨S512, .f32⟩
  | 8 => ⟨S512x256, .f32⟩
  | 9 => ⟨S512, .f32⟩
  | 10 => ⟨S1024x512, .f32⟩
  | 11 => ⟨S1024, .f32⟩
  | 12 => ⟨S49152x1024, .f32⟩
  | 13 => ⟨S49152, .f32⟩
  | 14 => ⟨S800000x1, .i32⟩
  | 15 => ⟨S800000, .i32⟩
  | 16 => ⟨S800000x1, .i32⟩
  | 17 => ⟨S800000, .i32⟩
  | 18 => ⟨S_, .f32⟩
  | 19 => ⟨S50000x1, .f32⟩
  | 20 => ⟨S50000x4, .f32⟩
  | 21 => ⟨S_, .f32⟩
  | 22 => ⟨S50000x4, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x4, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S50000x4, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x4, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S50000x4, .f32⟩
  | 59 => ⟨S50000x3, .f32⟩
  | 60 => ⟨S50000x1, .f32⟩
  | 61 => ⟨S3x256, .f32⟩
  | 62 => ⟨S50000x256, .f32⟩
  | 63 => ⟨S1x256, .f32⟩
  | 64 => ⟨S50000x256, .f32⟩
  | 65 => ⟨S50000x256, .f32⟩
  | 66 => ⟨S3x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .bf16⟩
  | 78 => ⟨S50000x256, .f32⟩
  | 79 => ⟨S_, .f32⟩
  | 80 => ⟨S50000x256, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x256, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S50000x256, .f32⟩
  | 117 => ⟨S256x512, .f32⟩
  | 118 => ⟨S50000x256, .bf16⟩
  | 119 => ⟨S256x512, .bf16⟩
  | 120 => ⟨S50000x512, .f32⟩
  | 121 => ⟨S1x512, .f32⟩
  | 122 => ⟨S50000x512, .f32⟩
  | 123 => ⟨S50000x512, .f32⟩
  | 124 => ⟨S512x256, .bf16⟩
  | 125 => ⟨S512x256, .f32⟩
  | 126 => ⟨S256x512, .f32⟩
  | 127 => ⟨S50000x512, .f32⟩
  | _ => ⟨S50000x3, .f32⟩

abbrev hbmTy0_1 (i : Nat) : BufTy := match i % 128 with
  | 0 => ⟨S50000x512, .f32⟩
  | 1 => ⟨S1x512, .f32⟩
  | 2 => ⟨S50000x512, .f32⟩
  | 3 => ⟨S50000x512, .f32⟩
  | 4 => ⟨S50000x512, .f32⟩
  | 5 => ⟨S50000x512, .f32⟩
  | 6 => ⟨S_, .f32⟩
  | 7 => ⟨S50000x512, .f32⟩
  | 8 => ⟨S50000x512, .f32⟩
  | 9 => ⟨S_, .f32⟩
  | 10 => ⟨S512, .f32⟩
  | 11 => ⟨S1x512, .f32⟩
  | 12 => ⟨S1x1024, .f32⟩
  | 13 => ⟨S1x49152, .f32⟩
  | 14 => ⟨S1x49152, .f32⟩
  | 15 => ⟨S1x3x128x128, .f32⟩
  | 16 => ⟨S1x3x128x4x128, .f32⟩
  | 17 => ⟨S1x3x512x128, .f32⟩
  | 18 => ⟨S1x3x512x128x4, .f32⟩
  | 19 => ⟨S1x3x512x512, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S1x512, .f32⟩
  | .local _ .vmem, ⟨1, _⟩ => ⟨S1024x512, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x1024, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call1_cst : Ref sig .tc := ⟨.hbm, 134, rfl⟩
abbrev main_call1_v0 : Ref sig .tc := ⟨.hbm, 135, rfl⟩
abbrev main_v99 : Ref sig .tc := ⟨.hbm, 136, rfl⟩
abbrev main_cst_17 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S50000x3 : Shape := ⟨2, ![50000, 3]⟩
abbrev S800000x2 : Shape := ⟨2, ![800000, 2]⟩
abbrev S256x3 : Shape := ⟨2, ![256, 3]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S49152x1024 : Shape := ⟨2, ![49152, 1024]⟩
abbrev S49152 : Shape := ⟨1, ![49152]⟩
abbrev S3x256 : Shape := ⟨2, ![3, 256]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000 : Shape := ⟨1, ![800000]⟩
abbrev S800000x256 : Shape := ⟨2, ![800000, 256]⟩
abbrev S256x512 : Shape := ⟨2, ![256, 512]⟩
abbrev S50000x512 : Shape := ⟨2, ![50000, 512]⟩
abbrev S1x512 : Shape := ⟨2, ![1, 512]⟩
abbrev S800000x512 : Shape := ⟨2, ![800000, 512]⟩
abbrev S512x1024 : Shape := ⟨2, ![512, 1024]⟩
abbrev S1024x49152 : Shape := ⟨2, ![1024, 49152]⟩
abbrev S1x3x128x128 : Shape := ⟨4, ![1, 3, 128, 128]⟩
abbrev S1x3x128x4x128 : Shape := ⟨5, ![1, 3, 128, 4, 128]⟩
abbrev S1x3x512x128 : Shape := ⟨4, ![1, 3, 512, 128]⟩
abbrev S1x3x512x128x4 : Shape := ⟨5, ![1, 3, 512, 128, 4]⟩
abbrev S1x3x512x512 : Shape := ⟨4, ![1, 3, 512, 512]⟩

abbrev nBuf : Space → Nat
  | .hbm => 158
  | .vmem => 0
  | .smem => 0
  | _ => 0

abbrev hbmTy0_0 (i : Nat) : BufTy := match i % 128 with
  | 0 => ⟨S50000x3, .f32⟩
  | 1 => ⟨S800000x2, .i32⟩
  | 2 => ⟨S256x3, .f32⟩
  | 3 => ⟨S256, .f32⟩
  | 4 => ⟨S256x3, .f32⟩
  | 5 => ⟨S256, .f32⟩
  | 6 => ⟨S512x256, .f32⟩
  | 7 => ⟨S512, .f32⟩
  | 8 => ⟨S512x256, .f32⟩
  | 9 => ⟨S512, .f32⟩
  | 10 => ⟨S1024x512, .f32⟩
  | 11 => ⟨S1024, .f32⟩
  | 12 => ⟨S49152x1024, .f32⟩
  | 13 => ⟨S49152, .f32⟩
  | 14 => ⟨S3x256, .f32⟩
  | 15 => ⟨S50000x256, .f32⟩
  | 16 => ⟨S1x256, .f32⟩
  | 17 => ⟨S50000x256, .f32⟩
  | 18 => ⟨S50000x256, .f32⟩
  | 19 => ⟨S3x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S50000x256, .f32⟩
  | 26 => ⟨S800000x1, .i32⟩
  | 27 => ⟨S800000, .i32⟩
  | 28 => ⟨S800000x1, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S50000x256, .f32⟩
  | 48 => ⟨S800000x1, .i32⟩
  | 49 => ⟨S800000, .i32⟩
  | 50 => ⟨S800000x1, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S256x512, .f32⟩
  | 75 => ⟨S50000x512, .f32⟩
  | 76 => ⟨S1x512, .f32⟩
  | 77 => ⟨S50000x512, .f32⟩
  | 78 => ⟨S50000x512, .f32⟩
  | 79 => ⟨S256x512, .f32⟩
  | 80 => ⟨S50000x512, .f32⟩
  | 81 => ⟨S1x512, .f32⟩
  | 82 => ⟨S50000x512, .f32⟩
  | 83 => ⟨S50000x512, .f32⟩
  | 84 => ⟨S_, .f32⟩
  | 85 => ⟨S50000x512, .f32⟩
  | 86 => ⟨S800000x1, .i32⟩
  | 87 => ⟨S800000, .i32⟩
  | 88 => ⟨S800000x1, .i32⟩
  | 89 => ⟨S800000, .i32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x512, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S50000x512, .f32⟩
  | 108 => ⟨S800000x1, .i32⟩
  | 109 => ⟨S800000, .i32⟩
  | 110 => ⟨S800000x1, .i32⟩
  | 111 => ⟨S800000, .i32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x512, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x3, .f32⟩

abbrev hbmTy0_1 (i : Nat) : BufTy := match i % 128 with
  | 0 => ⟨S800000x1, .i32⟩
  | 1 => ⟨S50000x512, .f32⟩
  | 2 => ⟨S50000x512, .f32⟩
  | 3 => ⟨S_, .f32⟩
  | 4 => ⟨S50000x512, .f32⟩
  | 5 => ⟨S50000x512, .f32⟩
  | 6 => ⟨S_, .f32⟩
  | 7 => ⟨S512, .f32⟩
  | 8 => ⟨S512x1024, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024x49152, .f32⟩
  | 15 => ⟨S49152, .f32⟩
  | 16 => ⟨S49152, .f32⟩
  | 17 => ⟨S49152, .f32⟩
  | 18 => ⟨S49152, .f32⟩
  | 19 => ⟨S_, .f32⟩
  | 20 => ⟨S49152, .f32⟩
  | 21 => ⟨S49152, .f32⟩
  | 22 => ⟨S_, .f32⟩
  | 23 => ⟨S49152, .f32⟩
  | 24 => ⟨S49152, .f32⟩
  | 25 => ⟨S1x3x128x128, .f32⟩
  | 26 => ⟨S1x3x128x4x128, .f32⟩
  | 27 => ⟨S1x3x512x128, .f32⟩
  | 28 => ⟨S1x3x512x128x4, .f32⟩
  | 29 => ⟨S1x3x512x512, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_8 : Ref sig .tc := ⟨.hbm, 90, rfl⟩
abbrev main_v64 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_10 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_12 : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_14 : Ref sig .tc := ⟨.hbm, 121, rfl⟩
abbrev main_v89 : Ref sig .tc := ⟨.hbm, 122, rfl⟩
abbrev main_v90 : Ref sig .tc := ⟨.hbm, 123, rfl⟩
abbrev main_c_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call1_cst : Ref sig .tc := ⟨.hbm, 131, rfl⟩
abbrev main_call1_v0 : Ref sig .tc := ⟨.hbm, 132, rfl⟩
abbrev main_v97 : Ref sig .tc := ⟨.hbm, 133, rfl⟩
abbrev main_cst_16 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call2_cst : Ref sig .tc := ⟨.hbm, 139, rfl⟩
abbrev main_call2_v0 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_17 : Ref sig .tc := ⟨.hbm, 147, rfl⟩
abbrev main_v108 : Ref sig .tc := ⟨.hbm, 148, rfl⟩
abbrev main_v109 : Ref sig .tc := ⟨.hbm, 149, rfl⟩
abbrev main_cst_18 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]
-- ==== Proof.Grid.lean ====
/-
  What the tiled decoder leaves in its output array, at any reading of the floats: the first grid point stores the hidden
  row in the buffer the kernel keeps, every point multiplies that row with its own 2048 rows of the decoder's matrix, and
  the 24 blocks fill the array.
-/
module

public import proofs.«01_k».proof.Proof.Gen.KernelIdeal.Frame
public import Idealize.ShloMosaic.Lib.Pipeline.Value
public import Idealize.ShloMosaic.Lib.ValueIdx

@[expose] public section

noncomputable section

namespace Cert.Mesh

open Cert.KernelIdeal Cert.KernelIdeal.Gen Idealize.ShloMosaic Idealize.ShloMosaic.TcCoe Idealize.SL.Sem
open Idealize.ShloMosaic.Pipeline (Dat)

variable {F : FTy → Type} [FloatOps F]

/-- The offsets of a whole two-axis buffer are zero on both axes. -/
theorem zero_offsets : (![0, 0] : Fin 2 → Nat) = fun _ => 0 := funext fun a => by fin_cases a <;> rfl

section Points
variable (c : Dev nD) (i : grid0.Coords) (a1 : Memref sig .tc .vmem S1x512 .f32) (h1 : a1.IsWhole) (a2 : Memref sig .tc .vmem S1024x512 .f32) (h2 : a2.IsWhole) (a3 : Memref sig .tc .vmem S1x1024 .f32) (h3 : a3.IsWhole) (a4 : Memref sig .tc .vmem S2048x1024 .f32) (h4 : a4.IsWhole) (a5 : Memref sig .tc .vmem S1x2048 .f32) (h5 : a5.IsWhole) (a6 : Memref sig .tc .vmem S1x2048 .f32) (h6 : a6.IsWhole) (a7 : Memref sig .tc .vmem S1x1024 .f32) (h7 : a7.IsWhole)
  (x0 : Vec F S1x512 .f32) (x1 : Vec F S1024x512 .f32) (x2 : Vec F S1x1024 .f32) (x3 : Vec F S2048x1024 .f32) (x4 : Vec F S1x2048 .f32) (xs : Vec F S1x1024 .f32)

/-- Away from the first point the output block is the decoder of the kept row and of the point's own block. -/
theorem block_later (hc : ¬cond0_0 i) :
    out0_B_5 c i a1 h1 a2 h2 a3 h3 a4 h4 a5 h5 a6 h6 a7 h7 hc x0 x1 x2 x3 x4 xs = k0_pay2 xs x3 x4 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  rw [View.canon_unit_zero zero_offsets]
  simp only [View.readAt_eq_ld, h7.read_unread, h4.read_unread, h5.read_unread, View.ld_unit_zero (S := S1x1024) zero_offsets,
    View.ld_unit_zero (S := S2048x1024) zero_offsets, View.ld_unit_zero (S := S1x2048) zero_offsets]

/-- The first point keeps the hidden row. -/
theorem kept_first (hc : cond0_0 i) :
    sout0_A_0 c i a1 h1 a2 h2 a3 h3 a4 h4 a5 h5 a6 h6 a7 h7 hc x0 x1 x2 x3 x4 = k0_pay1 x0 x1 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  dsimp only
  rw [View.canon_unit_zero zero_offsets]
  simp only [View.readAt_eq_ld, h1.read_unread, h2.read_unread, h3.read_unread, View.ld_unit_zero (S := S1x512) zero_offsets,
    View.ld_unit_zero (S := S1024x512) zero_offsets, View.ld_unit_zero (S := S1x1024) zero_offsets]

/-- The first point's output block is the decoder of the row it has just kept and of its own block. -/
theorem block_first (hc : cond0_0 i) :
    out0_A_5 c i a1 h1 a2 h2 a3 h3 a4 h4 a5 h5 a6 h6 a7 h7 hc x0 x1 x2 x3 x4 = k0_pay2 (k0_pay1 x0 x1 x2) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  dsimp only
  rw [View.canon_unit_zero zero_offsets]
  simp only [View.readAt_eq_ld, View.readCov_unit_zero (S := S1x1024) _ zero_offsets, h1.read_unread, h2.read_unread, h3.read_unread, h4.read_unread, h5.read_unread,
    View.ld_unit_zero (S := S1x512) zero_offsets, View.ld_unit_zero (S := S1024x512) zero_offsets, View.ld_unit_zero (S := S1x1024) zero_offsets,
    View.ld_unit_zero (S := S2048x1024) zero_offsets, View.ld_unit_zero (S := S1x2048) zero_offsets]

end Points

variable (m : (ℓ : Loc nD τ sig) → Buf (Elt F) ℓ) (ρ : Dev nD → PrngReg)

/-- The first grid point. -/
abbrev pt0 : Fin cfg0.N := ⟨0, lt_of_lt_of_eq (by decide) N_0.symm⟩

/-- The hidden row, of the blocks that the first point reads. -/
def hiddenRow (c : Dev nD) : Vec F S1x1024 .f32 := k0_pay1 (iblk m c 0 pt0) (iblk m c 1 pt0) (iblk m c 2 pt0)

/-- After any point the kept buffer holds the hidden row, and the output block the decoder of it and of the point's block. -/
theorem after_point (c : Dev nD) (n : ℕ) (hn : n < cfg0.N) :
    outsAt0 m c n hn = (k0_pay2 (hiddenRow m c) (iblk m c 3 ⟨n, hn⟩) (iblk m c 4 ⟨n, hn⟩), hiddenRow m c) := by
  induction n with
  | zero =>
    refine (outsAt0_A m c ⟨0, hn⟩ (Nat.zero_mod _)).trans ?_
    rw [block_first, kept_first]
    rfl
  | succ k ih =>
    have hN : k + 1 < 24 := lt_of_lt_of_eq hn N_0
    have hk : ¬ (k + 1) % 24 = 0 := by omega
    refine (outsAt0_B m c ⟨k + 1, hn⟩ hk).trans ?_
    rw [block_later]
    have e : (outsAt0 m c ((⟨k + 1, hn⟩ : Fin cfg0.N).val - 1) (Nat.lt_of_le_of_lt (Nat.sub_le _ _) (⟨k + 1, hn⟩ : Fin cfg0.N).isLt)).2 = hiddenRow m c := by
      have := ih (by omega)
      exact congrArg Prod.snd this
    unfold sout0_B_0
    rw [e]

/-! ## The array -/

/-- The point whose block holds column `n` of the output. -/
def colPt (n : Fin 49152) : Fin cfg0.N := ⟨n.val / 2048, lt_of_lt_of_eq (by omega) N_0.symm⟩

/-- Where column `n` lies in that block. -/
def colIn (n : Fin 49152) : S1x2048.Idx := ValueIdx.ix2 0 ⟨n.val % 2048, by omega⟩

/-- The output row: each column read off the block of the point that computes it. -/
def decoded (c : Dev nD) : Buf (Elt F) ((c : Thread nD τ).loc main_v104) := fun i =>
  (k0_pay2 (hiddenRow m c) (iblk m c 3 (colPt (i 1))) (iblk m c 4 (colPt (i 1)))) (colIn (i 1))

/-- The output window's block at point `t` is block `t` along the columns. -/
theorem out_index : ∀ t : Fin cfg0.N, win0_5.index t = ![0, t.val] :=
  (by decide +kernel : ∀ t : Fin grid0.N, win0_5.index t = ![0, t.val])

/-- Every point writes its output block back. -/
theorem out_flush : ∀ t : Fin cfg0.N, (cfg0.win 5).flush t = true :=
  (by decide +kernel : ∀ t : Fin grid0.N, win0_5.flush t = true)

/-- What point `t` writes back is block `t` of the output row. -/
theorem written_back (c : Dev nD) (t : Fin cfg0.N) :
    (dats m 0 c).flushed 5 t = ((cfg0.win 5).blk t).view.read (Elt F) (decoded m c) := by
  show (cfg0.win 5).cut (grid0.coords t) ((dats m 0 c).after 5 t) = _
  rw [after0_5, after_point]
  have ht : t.val < 24 := lt_of_lt_of_eq t.isLt N_0
  have e1 : win0_5.index t (1 : Fin 2) = t.val := congrFun (out_index t) 1
  funext y
  have hy0 : (y 0).val < 1 := (y 0).isLt
  have hy1 : (y 1).val < 2048 := (y 1).isLt
  have hb1 : (((cfg0.win 5).blk t).view.emb y 1).val = win0_5.index t (1 : Fin 2) * 2048 + 1 * (y 1).val := rfl
  rw [e1] at hb1
  have hp : colPt (((cfg0.win 5).blk t).view.emb y 1) = t := by
    apply Fin.ext
    show (((cfg0.win 5).blk t).view.emb y 1).val / 2048 = t.val
    rw [hb1]; omega
  have hl : colIn (((cfg0.win 5).blk t).view.emb y 1) = (cfg0.win 5).xinj (grid0.coords t) y := by
    funext a; apply Fin.ext
    match a with
    | ⟨0, _⟩ => show 0 = (y 0).val; omega
    | ⟨1, _⟩ => show (((cfg0.win 5).blk t).view.emb y 1).val % 2048 = (y 1).val; rw [hb1]; omega
  show (k0_pay2 (hiddenRow m c) (iblk m c 3 t) (iblk m c 4 t)) ((cfg0.win 5).xinj (grid0.coords t) y) = decoded m c (((cfg0.win 5).blk t).view.emb y)
  unfold decoded
  rw [hp, hl]

/-- Column `n` lies in the block of its point. -/
theorem mem_block (i : S1x49152.Idx) : i ∈ ((cfg0.win 5).blk (colPt (i 1))).view.set := by
  show i ∈ ((View.whole main_v104).slice (win0_5.rect (colPt (i 1)))).set
  rw [View.set_slice_whole, Rect.mem_set_unit]
  have hi0 : (i 0).val < 1 := (i 0).isLt
  have hi1 : (i 1).val < 49152 := (i 1).isLt
  have e0 : win0_5.index (colPt (i 1)) (0 : Fin 2) = 0 := congrFun (out_index _) 0
  have e1 : win0_5.index (colPt (i 1)) (1 : Fin 2) = (i 1).val / 2048 := congrFun (out_index _) 1
  intro a
  match a with
  | ⟨0, _⟩ =>
    show win0_5.index (colPt (i 1)) (0 : Fin 2) * 1 ≤ (i 0).val ∧ (i 0).val < win0_5.index (colPt (i 1)) (0 : Fin 2) * 1 + 1
    omega
  | ⟨1, _⟩ =>
    show win0_5.index (colPt (i 1)) (1 : Fin 2) * 2048 ≤ (i 1).val ∧ (i 1).val < win0_5.index (colPt (i 1)) (1 : Fin 2) * 2048 + 2048
    omega

/-- After the run the output array is the output row. -/
theorem array_after (c : Dev nD) : (dats m 0 c).arrAt 5 cfg0.N = decoded m c :=
  (dats m 0 c).arrAt_eq_of_cover 5 _ (fun t _ => written_back m c t) (fun i => ⟨colPt (i 1), out_flush _, mem_block i⟩)

end Cert.Mesh

end
-- ==== Proof.Host.lean ====
/-
  What the kernel's host lines before its tiled region compute, at any reading of the floats: the two graph convolutions,
  each a composed term of the arguments, and the maximum over the vertices.
-/
module

public import proofs.«01_k».proof.Proof.Gen.KernelIdeal.Frame

@[expose] public section

set_option maxRecDepth 16384

noncomputable section

namespace Cert.Mesh

open Cert.KernelIdeal Cert.KernelIdeal.Gen Idealize.ShloMosaic Idealize.ShloMosaic.TcCoe Idealize.SL.Sem

variable {F : FTy → Type} [FloatOps F]

/-! ## The terms -/

/-- Column 0 of the edge list. -/
def ends0 (e : IVec S800000x2 32) : IVec S800000 32 :=
  shapeCast _ (extractStridedSlice S800000x1 ![0, 0] e slices_S800000x2_S800000x1_0_0) shapeCasts_S800000x1_S800000

/-- Column 1 of the edge list. -/
def ends1 (e : IVec S800000x2 32) : IVec S800000 32 :=
  shapeCast _ (extractStridedSlice S800000x1 ![0, 1] e slices_S800000x2_S800000x1_0_1) shapeCasts_S800000x1_S800000

/-- A list of vertex numbers as a column, a negative number counted from the end. -/
def asColumn (q : IVec S800000 32) : IVec S800000x1 32 :=
  broadcastInDim S800000x1 ![0] bcast_S800000_S800000x1_0
    (select (cmpi .slt q (broadcastInDim S800000 ![] bcast_S_S800000 (constantI S_ 32 0#32)))
      (addi q (broadcastInDim S800000 ![] bcast_S_S800000 (constantI S_ 32 50000#32))) q)

/-- The vertices with a column of ones appended. -/
def withOnes (v : FVec F S50000x3 .f32) : FVec F S50000x4 .f32 :=
  concatenate S50000x4 1 [⟨S50000x3, v⟩, ⟨S50000x1, broadcastInDim S50000x1 ![] bcast_S_S50000x1 (constant (F := F) S_ .f32 0x3F800000#32)⟩]
    concatenates_S50000x3_S50000x1_S50000x4_d1

/-- Four-entry rows summed over each vertex's neighbours, both directions of every edge. -/
def sumNeighbours4 (x : FVec F S50000x4 .f32) (c0 c1 : IVec S800000x1 32) : FVec F S50000x4 .f32 :=
  Host.scatterAdd scatter_S50000x4_S800000x1_S800000x4_1_0_0_1
    (Host.scatterAdd scatter_S50000x4_S800000x1_S800000x4_1_0_0_1
      (broadcastInDim S50000x4 ![] bcast_S_S50000x4 (constant (F := F) S_ .f32 0x00000000#32)) c0
      (Host.gather gather_S50000x4_S800000x1_S800000x4_1_0_n_n_0_1_14 x c1)) c1
    (Host.gather gather_S50000x4_S800000x1_S800000x4_1_0_n_n_0_1_14 x c0)

/-- Rows of 256 entries summed over each vertex's neighbours. -/
def sumNeighbours256 (x : FVec F S50000x256 .f32) (c0 c1 : IVec S800000x1 32) : FVec F S50000x256 .f32 :=
  Host.scatterAdd scatter_S50000x256_S800000x1_S800000x256_1_0_0_1
    (Host.scatterAdd scatter_S50000x256_S800000x1_S800000x256_1_0_0_1
      (broadcastInDim S50000x256 ![] bcast_S_S50000x256 (constant (F := F) S_ .f32 0x00000000#32)) c0
      (Host.gather gather_S50000x256_S800000x1_S800000x256_1_0_n_n_0_1_1256 x c1)) c1
    (Host.gather gather_S50000x256_S800000x1_S800000x256_1_0_n_n_0_1_1256 x c0)

/-- Each vertex's number of neighbours: the last column of the summed four-entry rows. -/
def degrees (v : FVec F S50000x3 .f32) (c0 c1 : IVec S800000x1 32) : FVec F S50000x1 .f32 :=
  extractStridedSlice S50000x1 ![0, 3] (sumNeighbours4 (withOnes v) c0 c1) slices_S50000x4_S50000x1_0_3

/-- The first convolution before its positive part: the vertex's own product, the product of the neighbours' sum, and the
    second bias once for each neighbour. -/
def conv1 (v : FVec F S50000x3 .f32) (c0 c1 : IVec S800000x1 32) (w0 : FVec F S256x3 .f32) (b0 : FVec F S256 .f32)
    (w1 : FVec F S256x3 .f32) (b1 : FVec F S256 .f32) : FVec F S50000x256 .f32 :=
  addf
    (addf
      (addf (Host.dotGeneral dot_S50000x3_S3x256_S50000x256_1_0_0_1_n_n (some .fp32) v (transpose S3x256 [1, 0] w0 transposes_S256x3_S3x256_1_0))
        (broadcastInDim S50000x256 ![0, 1] bcast_S1x256_S50000x256_0_1 (broadcastInDim S1x256 ![1] bcast_S256_S1x256_1 b0)))
      (Host.dotGeneral dot_S50000x3_S3x256_S50000x256_1_0_0_1_n_n (some .fp32)
        (extractStridedSlice S50000x3 ![0, 0] (sumNeighbours4 (withOnes v) c0 c1) slices_S50000x4_S50000x3_0_0)
        (transpose S3x256 [1, 0] w1 transposes_S256x3_S3x256_1_0)))
    (mulf (broadcastInDim S50000x256 ![0, 1] bcast_S50000x1_S50000x256_0_1 (degrees v c0 c1))
      (broadcastInDim S50000x256 ![0, 1] bcast_S1x256_S50000x256_0_1 (broadcastInDim S1x256 ![1] bcast_S256_S1x256_1 b1)))

/-- The positive part of a matrix of 256 columns. -/
def positive256 (x : FVec F S50000x256 .f32) : FVec F S50000x256 .f32 :=
  maximumf x (broadcastInDim S50000x256 ![] bcast_S_S50000x256 (constant (F := F) S_ .f32 0x00000000#32))

/-- The positive part of a matrix of 512 columns. -/
def positive512 (x : FVec F S50000x512 .f32) : FVec F S50000x512 .f32 :=
  maximumf x (broadcastInDim S50000x512 ![] bcast_S_S50000x512 (constant (F := F) S_ .f32 0x00000000#32))

/-- A matrix rounded to bf16 and widened again. -/
def rounded {s : Shape} (x : FVec F s .f32) : FVec F s .f32 :=
  extf .f32 (truncf .bf16 x bitsLt_bf16_f32) bitsLt_bf16_f32

/-- The second convolution before its positive part, of the first's output and the vertices' numbers of neighbours. -/
def conv2 (x : FVec F S50000x256 .f32) (d : FVec F S50000x1 .f32) (c0 c1 : IVec S800000x1 32) (w0 : FVec F S512x256 .f32) (b0 : FVec F S512 .f32)
    (w1 : FVec F S512x256 .f32) (b1 : FVec F S512 .f32) : FVec F S50000x512 .f32 :=
  addf
    (addf
      (addf
        (Host.dotGeneral dot_S50000x256_S256x512_S50000x512_1_0_0_1_n_n none (truncf .bf16 (rounded x) bitsLt_bf16_f32)
          (truncf .bf16 (transpose S256x512 [1, 0] w0 transposes_S512x256_S256x512_1_0) bitsLt_bf16_f32))
        (broadcastInDim S50000x512 ![0, 1] bcast_S1x512_S50000x512_0_1 (broadcastInDim S1x512 ![1] bcast_S512_S1x512_1 b0)))
      (Host.dotGeneral dot_S50000x256_S256x512_S50000x512_1_0_0_1_n_n (some .fp32)
        (sumNeighbours256 (rounded x) c0 c1)
        (transpose S256x512 [1, 0] (rounded w1) transposes_S512x256_S256x512_1_0)))
    (mulf (broadcastInDim S50000x512 ![0, 1] bcast_S50000x1_S50000x512_0_1 d)
      (broadcastInDim S50000x512 ![0, 1] bcast_S1x512_S50000x512_0_1 (broadcastInDim S1x512 ![1] bcast_S512_S1x512_1 b1)))

/-- The maximum of every column over the vertices. -/
def pooled (x : FVec F S50000x512 .f32) : FVec F S512 .f32 :=
  Host.reduce FloatOps.maximumf x (constant S_ .f32 0xFF800000#32) reducesTo_S50000x512_S512_d0 h_S_

/-! ## The host lines compute them -/

/-- A valuation read at a TensorCore buffer. -/
abbrev at' (W : Valuation τ sig (Elt F)) (b : Ref sig .tc) := W (Proc.devRef .tc b)

section Stages
variable (W : Valuation τ sig (Elt F))

set_option maxHeartbeats 8000000

/-- The first lines leave the first column of the edge list. -/
theorem stage0_ends0 : at' (StableHlo.after hostOps0 W) main_v1 = ends0 (at' W main_arg1) := by
  after_results_simp
  rfl

/-- The first lines leave the second column of the edge list. -/
theorem stage0_ends1 : at' (StableHlo.after hostOps0 W) main_v3 = ends1 (at' W main_arg1) := by
  after_results_simp
  rfl

/-- The first lines leave the numbers of neighbours. -/
theorem stage0_degrees : at' (StableHlo.after hostOps0 W) main_v36 =
    degrees (at' W main_arg0) (asColumn (ends0 (at' W main_arg1))) (asColumn (ends1 (at' W main_arg1))) := by
  after_results_simp
  rfl

/-- The first lines leave the first convolution. -/
theorem stage0_conv1 : at' (StableHlo.after hostOps0 W) main_v49 =
    conv1 (at' W main_arg0) (asColumn (ends0 (at' W main_arg1))) (asColumn (ends1 (at' W main_arg1)))
      (at' W main_arg2) (at' W main_arg3) (at' W main_arg4) (at' W main_arg5) := by
  after_results_simp
  rfl

/-- The next lines leave its positive part. -/
theorem stage1_positive : at' (StableHlo.after hostOps0_1 W) main_v50 = positive256 (at' W main_v49) := by
  simp only [hostOps0_1, StableHlo.TRef.binary, StableHlo.TRef.nullary, StableHlo.TRef.unary, StableHlo.TRef.toBuf, StableHlo.TRef.ofBuf, cast_eq]
  after_results_simp
  rfl

/-- The next lines leave the second convolution. -/
theorem stage2_conv2 : at' (StableHlo.after hostOps0_2 W) main_v98 =
    conv2 (at' W main_v50) (at' W main_v36) (asColumn (at' W main_v1)) (asColumn (at' W main_v3))
      (at' W main_arg6) (at' W main_arg7) (at' W main_arg8) (at' W main_arg9) := by
  after_results_simp
  rfl

/-- The next lines leave its positive part. -/
theorem stage3_positive : at' (StableHlo.after hostOps0_3 W) main_v99 = positive512 (at' W main_v98) := by
  simp only [hostOps0_3, StableHlo.TRef.binary, StableHlo.TRef.nullary, StableHlo.TRef.unary, StableHlo.TRef.toBuf, StableHlo.TRef.ofBuf, cast_eq]
  after_results_simp
  rfl

/-- The last lines leave the maximum over the vertices as a row, -/
theorem stage4_pooled : at' (StableHlo.after hostOps0_4 W) main_v101 = shapeCast _ (pooled (at' W main_v99)) shapeCasts_S512_S1x512 := by
  after_results_simp
  rfl

/-- the hidden layer's bias as a row, -/
theorem stage4_bias3 : at' (StableHlo.after hostOps0_4 W) main_v102 = shapeCast _ (at' W main_arg11) shapeCasts_S1024_S1x1024 := by
  after_results_simp
  rfl

/-- and the decoder's bias as a row. -/
theorem stage4_bias4 : at' (StableHlo.after hostOps0_4 W) main_v103 = shapeCast _ (at' W main_arg13) shapeCasts_S49152_S1x49152 := by
  after_results_simp
  rfl

end Stages

end Cert.Mesh

end
-- ==== Proof.Prefix.lean ====
/-
  The host lines before the tiled region strung together: what the region finds in its operands, as terms of the program's
  arguments.
-/
module

public import proofs.«01_k».proof.Proof.Host

@[expose] public section

set_option maxRecDepth 16384

noncomputable section

namespace Cert.Mesh

open Cert.KernelIdeal Cert.KernelIdeal.Gen Idealize.ShloMosaic Idealize.ShloMosaic.TcCoe Idealize.SL.Sem

variable {F : FTy → Type} [FloatOps F]

/-! ## What the lines leave alone -/

/-- The arguments that later lines read. -/
abbrev laterArgs : List (Ref sig .tc) := [main_arg6, main_arg7, main_arg8, main_arg9, main_arg11, main_arg13]

/-- These and what the first lines leave for later ones. -/
abbrev carried : List (Ref sig .tc) := main_v1 :: main_v3 :: main_v36 :: laterArgs

section Kept
variable (W : Valuation τ sig (Elt F)) (b : Ref sig .tc)

/-- The first lines leave the arguments alone. -/
theorem kept0 (hb : b ∈ laterArgs) : at' (StableHlo.after hostOps0 W) b = at' W b :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne fun e => absurd (e ▸ hb) (by decide)))

/-- The positive part after them writes nothing that later lines read but its own result. -/
theorem kept1 (hb : b ∈ carried) : at' (StableHlo.after hostOps0_1 W) b = at' W b :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne fun e => absurd (e ▸ hb) (by decide)))

/-- Nor do the second convolution's lines, -/
theorem kept2 (hb : b ∈ carried) : at' (StableHlo.after hostOps0_2 W) b = at' W b :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne fun e => absurd (e ▸ hb) (by decide)))

/-- nor its positive part. -/
theorem kept3 (hb : b ∈ carried) : at' (StableHlo.after hostOps0_3 W) b = at' W b :=
  StableHlo.after_of_forall_not_mem (b := Proc.devRef .tc b) _ _ (List.forall_iff_forall_mem.mp (by
    simp only [hostOps0_3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne fun e => absurd (e ▸ hb) (by decide)))

end Kept

/-! ## The operands of the region -/

/-- Two runs of host lines one after the other are one run. -/
theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

variable (m : (ℓ : Loc nD τ sig) → Buf (Elt F) ℓ) (c : Dev nD)

/-- The memory of one device as launched. -/
abbrev start : Valuation τ sig (Elt F) := fun b => m (c, b)
/-- After the first convolution's lines. -/
abbrev afterConv1 : Valuation τ sig (Elt F) := StableHlo.after hostOps0 (start m c)
/-- After its positive part. -/
abbrev afterPositive1 : Valuation τ sig (Elt F) := StableHlo.after hostOps0_1 (afterConv1 m c)
/-- After the second convolution's lines. -/
abbrev afterConv2 : Valuation τ sig (Elt F) := StableHlo.after hostOps0_2 (afterPositive1 m c)
/-- After its positive part. -/
abbrev afterPositive2 : Valuation τ sig (Elt F) := StableHlo.after hostOps0_3 (afterConv2 m c)

/-- What the region finds is what the last lines before it leave after those stages. -/
theorem V0_eq : V0 m c = StableHlo.after hostOps0_4 (afterPositive2 m c) := by
  show StableHlo.after (hostOps0 ++ (hostOps0_1 ++ (hostOps0_2 ++ (hostOps0_3 ++ (hostOps0_4 ++ []))))) (start m c) = _
  rw [List.append_nil, after_two, after_two, after_two, after_two]

/-- An argument as the last lines find it. -/
theorem arg_last (b : Ref sig .tc) (hb : b ∈ laterArgs) : at' (afterPositive2 m c) b = m ((c : Thread nD τ).loc b) :=
  have h : b ∈ carried := List.mem_cons_of_mem _ (List.mem_cons_of_mem _ (List.mem_cons_of_mem _ hb))
  (kept3 _ b h).trans ((kept2 _ b h).trans ((kept1 _ b h).trans (kept0 _ b hb)))

/-- The features of the vertices after both convolutions, of the program's arguments. -/
def features (v : FVec F S50000x3 .f32) (e : IVec S800000x2 32) (w10 : FVec F S256x3 .f32) (b10 : FVec F S256 .f32)
    (w11 : FVec F S256x3 .f32) (b11 : FVec F S256 .f32) (w20 : FVec F S512x256 .f32) (b20 : FVec F S512 .f32)
    (w21 : FVec F S512x256 .f32) (b21 : FVec F S512 .f32) : FVec F S512 .f32 :=
  pooled (positive512 (conv2 (positive256 (conv1 v (asColumn (ends0 e)) (asColumn (ends1 e)) w10 b10 w11 b11))
    (degrees v (asColumn (ends0 e)) (asColumn (ends1 e))) (asColumn (ends0 e)) (asColumn (ends1 e)) w20 b20 w21 b21))

/-- The region's first operand is the features as a row, -/
theorem operand_features : V m c main_v101 = shapeCast _ (features (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))) shapeCasts_S512_S1x512 := by
  show at' (V0 m c) main_v101 = _
  rw [V0_eq, stage4_pooled]
  unfold features
  rw [show at' (afterPositive2 m c) main_v99 = _ from stage3_positive _]
  rw [show at' (afterConv2 m c) main_v98 = _ from stage2_conv2 _]
  rw [show at' (afterPositive1 m c) main_v50 = _ from stage1_positive _]
  rw [show at' (afterConv1 m c) main_v49 = _ from stage0_conv1 _]
  rw [show at' (afterPositive1 m c) main_v36 = _ from (kept1 _ _ (by decide)).trans (stage0_degrees _)]
  rw [show at' (afterPositive1 m c) main_v1 = _ from (kept1 _ _ (by decide)).trans (stage0_ends0 _)]
  rw [show at' (afterPositive1 m c) main_v3 = _ from (kept1 _ _ (by decide)).trans (stage0_ends1 _)]
  rw [show at' (afterPositive1 m c) main_arg6 = _ from (kept1 _ _ (by decide)).trans (kept0 _ _ (by decide))]
  rw [show at' (afterPositive1 m c) main_arg7 = _ from (kept1 _ _ (by decide)).trans (kept0 _ _ (by decide))]
  rw [show at' (afterPositive1 m c) main_arg8 = _ from (kept1 _ _ (by decide)).trans (kept0 _ _ (by decide))]
  rw [show at' (afterPositive1 m c) main_arg9 = _ from (kept1 _ _ (by decide)).trans (kept0 _ _ (by decide))]

/-- the third the hidden layer's bias as a row, -/
theorem operand_bias3 : V m c main_v102 = shapeCast _ (m ((c : Thread nD τ).loc main_arg11)) shapeCasts_S1024_S1x1024 := by
  show at' (V0 m c) main_v102 = _
  rw [V0_eq, stage4_bias3, arg_last m c _ (by decide)]

/-- and the fifth the decoder's bias as a row. -/
theorem operand_bias4 : V m c main_v103 = shapeCast _ (m ((c : Thread nD τ).loc main_arg13)) shapeCasts_S49152_S1x49152 := by
  show at' (V0 m c) main_v103 = _
  rw [V0_eq, stage4_bias4, arg_last m c _ (by decide)]

end Cert.Mesh

end
-- ==== Proof.Rows.lean ====
/-
  The host operations that the mesh network is made of, read at one entry over the extended reals: gathering rows of a
  matrix by a column of row numbers, adding rows into a matrix at the rows such a column names, the matrix product of two
  matrices, the product of a vector with a matrix, and appending a column. All at any extents.
-/
module

public import Idealize.ShloMosaic.Lib.ValueIdx
public import Idealize.ShloMosaic.Lib.MatmulPlain
public import Idealize.ShloMosaic.Lib.StackMember
public import Idealize.ShloMosaic.Lib.ValueLayout
public import Idealize.ShloMosaic.Lib.KernelVsHost
public import Idealize.ShloMosaic.Lib.Pipeline.Value
public import Idealize.ShloMosaic.Lib.Routing.OpsPair
public import Idealize.ShloMosaic.Lib.IdealHost

@[expose] public section

noncomputable section

namespace Cert.Mesh

open Idealize.ShloMosaic Idealize.ShloMosaic.ValueIdx Idealize.ShloMosaic.Routing
open scoped BigOperators

/-! ## Gathering rows -/

section Gather
variable {α : Type}

/-- The dimension numbers of `x[idx]` for a matrix `x` of `N` rows and `C` columns and a column `idx` of `E` row numbers. -/
abbrev rowGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of a column of row numbers reads: the number read signed and clamped into the rows there are. -/
def readRow {E w : Nat} (N : Nat) (hN : 0 < N) (idx : IVec ⟨2, ![E, 1]⟩ w) (e : Fin E) : Fin N :=
  ⟨min (idx (ix2 e 0)).toInt.toNat (N - 1), by omega⟩

/-- Entry `(e, c)` of the gathered rows is entry `c` of the row that entry `e` of the column reads. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c) = x (ix2 (readRow N hN idx e) c) := by
  unfold Host.gather
  congr 1
  funext a
  refine Fin.ext ?_
  show (rowGather N C E wf).start (ix2 e c) idx a + (rowGather N C E wf).batchCoord (ix2 e c) a
      + (rowGather N C E wf).offCoord (ix2 e c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e c) ⟨List.idxOf (0 : Fin 2) (rowGather N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · rw [GatherDims.batchCoord_eq_zero _ _ _ (fun h => by simp at h)]
    have hs : (rowGather N C E wf).start (ix2 e c) idx 1 = 0 := by
      unfold GatherDims.start
      rw [dif_neg (fun h => absurd (List.mem_singleton.mp h) (by decide : (1 : Fin 2) ≠ 0))]
    rw [hs]
    simp only [Nat.zero_add, Nat.add_zero]
    unfold GatherDims.offCoord
    rw [dif_pos ((GatherDims.mem_sKept _ _).mpr ⟨fun h => absurd (List.mem_singleton.mp h) (by decide : (1 : Fin 2) ≠ 0), by simp⟩)]
    rfl

end Gather

/-! ## Adding rows at named rows -/

section Scatter

/-- The dimension numbers of `x.at[idx].add(u)` for a matrix `x` of `N` rows and `C` columns, a column `idx` of `E` row
    numbers and a matrix `u` of `E` rows. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Entry `(e, k)` of the added rows lands at `(n, c)` exactly when the row number of `e`, read signed, is `n`, and `k` is `c`. -/
theorem scatter_rows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (c : Fin C) :
    (rowScatter N C E wf).resultIdx? (ix2 e k) idx = some (ix2 n c) ↔ (idx (ix2 e 0)).toInt = (n.val : Int) ∧ k = c := by
  rw [resultIdx?_eq_some]
  have s0 : (rowScatter N C E wf).start (ix2 e k) idx 0 = (idx (ix2 e 0)).toInt := by
    unfold ScatterDims.start
    rw [dif_pos (show (0 : Fin 2) ∈ (rowScatter N C E wf).scatterDimsToOperandDims from List.mem_singleton.mpr rfl)]
    congr 2
    funext b; refine Fin.ext ?_
    match b with
    | ⟨0, _⟩ => rfl
    | ⟨1, _⟩ => rfl
  have s1 : (rowScatter N C E wf).start (ix2 e k) idx 1 = 0 := by
    unfold ScatterDims.start
    rw [dif_neg (fun h => absurd (List.mem_singleton.mp h) (by decide : (1 : Fin 2) ≠ 0))]
  have w0 : (rowScatter N C E wf).window (ix2 e k) 0 = 0 := by
    unfold ScatterDims.window
    rw [dif_neg (fun h => by
      have := (List.mem_filter.1 h).2
      simp at this)]
  have w1 : (rowScatter N C E wf).window (ix2 e k) 1 = k.val := by
    unfold ScatterDims.window
    rw [dif_pos (show (1 : Fin 2) ∈ (rowScatter N C E wf).sKept from (by decide : (1 : Fin 2) ∈ (List.finRange 2).filter (· ∉ [(0 : Fin 2)])))]
    rfl
  constructor
  · intro h
    have h0 : (rowScatter N C E wf).start (ix2 e k) idx 0 + ((rowScatter N C E wf).window (ix2 e k) 0 : Int) = (n.val : Int) := h 0
    have h1 : (rowScatter N C E wf).start (ix2 e k) idx 1 + ((rowScatter N C E wf).window (ix2 e k) 1 : Int) = (c.val : Int) := h 1
    rw [s0, w0] at h0
    rw [s1, w1] at h1
    refine ⟨?_, Fin.ext ?_⟩
    · simpa using h0
    · simpa using h1
  · rintro ⟨h0, rfl⟩ a
    match a with
    | ⟨0, _⟩ =>
      show (rowScatter N C E wf).start (ix2 e k) idx 0 + ((rowScatter N C E wf).window (ix2 e k) 0 : Int) = (n.val : Int)
      rw [s0, w0, h0]; simp
    | ⟨1, _⟩ =>
      show (rowScatter N C E wf).start (ix2 e k) idx 1 + ((rowScatter N C E wf).window (ix2 e k) 1 : Int) = (k.val : Int)
      rw [s1, w1]; simp

/-- The entries of a column of row numbers that name row `n`. -/
def naming {E w : Nat} (idx : IVec ⟨2, ![E, 1]⟩ w) (n : Nat) : Finset (Fin E) :=
  Finset.univ.filter fun e => (idx (ix2 e 0)).toInt = (n : Int)

/-- Entry `(n, c)` after the rows are added: what was there, and entry `c` of every added row whose number is `n`. -/
theorem scatter_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (u : FVec Ideal ⟨2, ![E, C]⟩ φ) (n : Fin N) (c : Fin C) :
    (Host.scatterAdd (rowScatter N C E wf) x idx u (ix2 n c) : EReal) = x (ix2 n c) + ∑ e ∈ naming idx n, u (ix2 e c) := by
  show x (ix2 n c) + ∑ j ∈ Finset.univ.filter (fun j => (rowScatter N C E wf).resultIdx? j idx = some (ix2 n c)), u j = _
  congr 1
  rw [Finset.sum_filter, sum_idx2]
  unfold naming
  rw [Finset.sum_filter]
  refine Finset.sum_congr rfl fun e _ => ?_
  simp only [scatter_rows_lands]
  by_cases h : (idx (ix2 e 0)).toInt = (n.val : Int)
  · simp only [h, true_and, if_true]
    exact (Finset.sum_ite_eq' Finset.univ c fun k => u (ix2 e k)).trans (if_pos (Finset.mem_univ c))
  · simp [h]

end Scatter

/-! ## Products -/

/-- A host product of two matrices at one entry: the sum of the products along the shared axis. -/
theorem hostDot_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    (Host.dotGeneral (DotDims.plain M K N) prec lhs rhs (ix2 r c) : EReal) = ∑ k : Fin K, lhs (ix2 r k) * rhs (ix2 k c) := by
  exact StackMember.dotGeneral_plain_apply prec lhs rhs r c

/-- The dimension numbers of the product of a vector of `K` entries with a matrix of `K` rows and `N` columns. -/
abbrev vecDot (K N : Nat) (wf : DotDims.WF ⟨1, ![K]⟩ ⟨2, ![K, N]⟩ ⟨1, ![N]⟩ [0] [0] [] [1] [] []) : DotDims ⟨1, ![K]⟩ ⟨2, ![K, N]⟩ ⟨1, ![N]⟩ where
  lhsContracting := [0]
  rhsContracting := [0]
  lhsNonContracting := []
  rhsNonContracting := [1]
  lhsBatch := []
  rhsBatch := []
  wf := wf

/-- A host product of a vector with a matrix at one entry: the sum of the products along the shared axis. -/
theorem hostVecDot_apply {K N : ℕ} {φ₁ φ₂ : FTy} (wf : DotDims.WF ⟨1, ![K]⟩ ⟨2, ![K, N]⟩ ⟨1, ![N]⟩ [0] [0] [] [1] [] [])
    (prec : Option ContractPrecision) (lhs : FVec Ideal ⟨1, ![K]⟩ φ₁) (rhs : FVec Ideal ⟨2, ![K, N]⟩ φ₂) (c : Fin N) :
    (Host.dotGeneral (vecDot K N wf) prec lhs rhs (ix1 c) : EReal) = ∑ k : Fin K, lhs (ix1 k) * rhs (ix2 k c) := by
  show FloatOps.dotGeneral (vecDot K N wf) prec _ lhs rhs (ix1 c) = _
  rw [Ideal.dotGeneral_apply, ← Equiv.sum_comp (contrEquiv1 (vecDot K N wf) K rfl rfl).symm]
  refine Finset.sum_congr rfl fun k _ => ?_
  have hk := contrEquiv1_symm_val (vecDot K N wf) K rfl rfl k
  have el : (vecDot K N wf).lhsIdx (ix1 c) ((contrEquiv1 (vecDot K N wf) K rfl rfl).symm k) = ix1 k := by
    funext a; apply Fin.ext
    match a with
    | ⟨0, _⟩ => exact hk
  have er : (vecDot K N wf).rhsIdx (ix1 c) ((contrEquiv1 (vecDot K N wf) K rfl rfl).symm k) = ix2 k c := by
    funext a; apply Fin.ext
    match a with
    | ⟨0, _⟩ => exact hk
    | ⟨1, _⟩ => rfl
  rw [el, er]

/-! ## Biases, columns and appended columns -/

section Layout
variable {α : Type}

/-- A vector laid out as a row and repeated down the rows of a matrix reads, at `(r, c)`, its entry `c`. -/
theorem bias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α) (r : Fin M) (c : Fin N) :
    broadcastInDim ⟨2, ![M, N]⟩ ![0, 1] h2 (broadcastInDim ⟨2, ![1, N]⟩ ![1] h1 b) (ix2 r c) = b (ix1 c) := by
  rw [broadcastInDim_oneRow_apply]
  refine broadcastInDim_apply ![1] h1 b (ix2 0 c) (ix1 c) fun a => ?_
  match a with
  | ⟨0, _⟩ =>
    show c.val = if N = 1 then 0 else c.val
    split_ifs with hn
    · have := c.isLt; omega
    · rfl

/-- A column repeated along the columns of a matrix reads, at `(r, c)`, its entry `r`. -/
theorem column_apply {M N : Nat} (h : (⟨2, ![M, 1]⟩ : Shape).BroadcastsInDim ⟨2, ![M, N]⟩ ![0, 1])
    (x : (⟨2, ![M, 1]⟩ : Shape).Idx → α) (r : Fin M) (c : Fin N) :
    broadcastInDim ⟨2, ![M, N]⟩ ![0, 1] h x (ix2 r c) = x (ix2 r 0) := by
  refine broadcastInDim_apply ![0, 1] h x (ix2 r c) (ix2 r 0) fun a => ?_
  match a with
  | ⟨0, _⟩ =>
    show r.val = if M = 1 then 0 else r.val
    split_ifs with hn
    · have := r.isLt; omega
    · rfl
  | ⟨1, _⟩ => rfl

/-- Columns taken from column `o` on read, at `(r, c)`, the matrix at column `o + c`. -/
theorem columns_apply {M N N' : Nat} (o : Nat) (x : (⟨2, ![M, N]⟩ : Shape).Idx → α)
    (h : (⟨2, ![M, N]⟩ : Shape).Slices ![0, o] ⟨2, ![M, N']⟩) (r : Fin M) (c : Fin N') (c' : Fin N) (hc : c'.val = o + c.val) :
    extractStridedSlice ⟨2, ![M, N']⟩ ![0, o] x h (ix2 r c) = x (ix2 r c') := by
  refine extractStridedSlice_apply ![0, o] x h (ix2 r c) (ix2 r c') fun a => ?_
  match a with
  | ⟨0, _⟩ => show r.val = 0 + r.val; omega
  | ⟨1, _⟩ => exact hc

/-- A matrix with a matrix appended on its right reads, at a column of the first, the first. -/
theorem append_left {M N1 N2 N : Nat} (x : (⟨2, ![M, N1]⟩ : Shape).Idx → α) (y : (⟨2, ![M, N2]⟩ : Shape).Idx → α)
    (h : Shape.Concatenates [⟨2, ![M, N1]⟩, ⟨2, ![M, N2]⟩] ⟨2, ![M, N]⟩ 1) (r : Fin M) (c : Fin N) (c' : Fin N1) (hc : c'.val = c.val) :
    concatenate ⟨2, ![M, N]⟩ 1 [⟨⟨2, ![M, N1]⟩, x⟩, ⟨⟨2, ![M, N2]⟩, y⟩] h (ix2 r c) = x (ix2 r c') := by
  refine concatenate_pair_apply_left (s₁ := ⟨2, ![M, N1]⟩) (s₂ := ⟨2, ![M, N2]⟩) 1 x y h (ix2 r c) rfl (ix2 r c') fun b => ?_
  match b with
  | ⟨0, _⟩ => rfl
  | ⟨1, _⟩ => exact hc

/-- A matrix with a matrix appended on its right reads, past the first one's columns, the second. -/
theorem append_right {M N1 N2 N : Nat} (x : (⟨2, ![M, N1]⟩ : Shape).Idx → α) (y : (⟨2, ![M, N2]⟩ : Shape).Idx → α)
    (h : Shape.Concatenates [⟨2, ![M, N1]⟩, ⟨2, ![M, N2]⟩] ⟨2, ![M, N]⟩ 1) (r : Fin M) (c : Fin N) (c' : Fin N2) (hc : c'.val + N1 = c.val) :
    concatenate ⟨2, ![M, N]⟩ 1 [⟨⟨2, ![M, N1]⟩, x⟩, ⟨⟨2, ![M, N2]⟩, y⟩] h (ix2 r c) = y (ix2 r c') := by
  refine concatenate_pair_apply_right (s₁ := ⟨2, ![M, N1]⟩) (s₂ := ⟨2, ![M, N2]⟩) 1 x y h (ix2 r c) rfl rfl (ix2 r c') (fun b hb => ?_) hc
  match b with
  | ⟨0, _⟩ => rfl
  | ⟨1, _⟩ => exact absurd rfl hb

end Layout

/-! ## Sums over neighbours -/

/-- The sum of `f` over the neighbours of vertex `n`: for every edge whose first end is `n` the vertex read at its second
    end, and for every edge whose second end is `n` the vertex read at its first. -/
def overNeighbours {N E w : Nat} (hN : 0 < N) (c0 c1 : IVec ⟨2, ![E, 1]⟩ w) (f : Fin N → EReal) (n : Fin N) : EReal :=
  ∑ x ∈ (naming c0 n).disjSum (naming c1 n), f (Sum.elim (readRow N hN c1) (readRow N hN c0) x)

/-- Rows gathered at each end of the edges and added at the other are the rows summed over the neighbours. -/
theorem both_ways_apply {N C E w : Nat} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (h : (⟨0, ![]⟩ : Shape).BroadcastsInDim ⟨2, ![N, C]⟩ ![])
    (x : FVec Ideal ⟨2, ![N, C]⟩ .f32) (c0 c1 : IVec ⟨2, ![E, 1]⟩ w) (n : Fin N) (c : Fin C) :
    (Host.scatterAdd (rowScatter N C E swf)
      (Host.scatterAdd (rowScatter N C E swf) (broadcastInDim ⟨2, ![N, C]⟩ ![] h (constant (F := Ideal) ⟨0, ![]⟩ .f32 0x00000000#32)) c0
        (Host.gather (rowGather N C E gwf) x c1)) c1
      (Host.gather (rowGather N C E gwf) x c0) (ix2 n c) : EReal) = overNeighbours hN c0 c1 (fun j => x (ix2 j c)) n := by
  rw [scatter_rows_apply, scatter_rows_apply, broadcastInDim_scalar_apply]
  have hz : (constant (F := Ideal) ⟨0, ![]⟩ .f32 0x00000000#32 ix0 : EReal) = 0 := Ideal.ofBits_zero_f32
  rw [hz, zero_add]
  unfold overNeighbours
  rw [Finset.sum_disjSum]
  simp only [gather_rows_apply hN, Sum.elim_inl, Sum.elim_inr]

end Cert.Mesh

end
-- ==== Proof.Linear.lean ====
/-
  The linearity that the kernel rests on, over the extended reals: a product summed over a set of rows, with its bias each
  time, is the product of the summed rows, with the bias times the number of rows. It holds where the rows have no negative
  entry, whatever the weights, and where rows and weights are finite.
-/
module

public import Mathlib.Data.EReal.Operations
public import Mathlib.Algebra.BigOperators.Fin
public import Mathlib.Algebra.Order.BigOperators.Group.Finset

@[expose] public section

namespace Cert.Mesh

open scoped BigOperators

variable {ι : Type}

/-- A sum of nonnegative extended reals times any one is the sum of the products. -/
theorem sum_mul_nonneg (s : Finset ι) (f : ι → EReal) (hf : ∀ x ∈ s, 0 ≤ f x) (w : EReal) :
    ∑ x ∈ s, f x * w = (∑ x ∈ s, f x) * w := by
  classical
  induction s using Finset.induction_on with
  | empty => simp
  | insert a s ha ih =>
    have h : ∀ x ∈ s, 0 ≤ f x := fun x hx => hf x (Finset.mem_insert_of_mem hx)
    rw [Finset.sum_insert ha, Finset.sum_insert ha, ih h,
      EReal.right_distrib_of_nonneg (hf a (Finset.mem_insert_self a s)) (Finset.sum_nonneg h)]

/-- A sum of reals, taken among the extended reals, times a real is the sum of the products. -/
theorem sum_mul_real (s : Finset ι) (f : ι → ℝ) (w : ℝ) :
    ∑ x ∈ s, ((f x : ℝ) : EReal) * (w : EReal) = (∑ x ∈ s, ((f x : ℝ) : EReal)) * (w : EReal) := by
  classical
  have hs : ∀ t : Finset ι, ∑ x ∈ t, ((f x : ℝ) : EReal) = ((∑ x ∈ t, f x : ℝ) : EReal) := fun t => by
    induction t using Finset.induction_on with
    | empty => simp
    | insert a t ha ih => rw [Finset.sum_insert ha, Finset.sum_insert ha, ih, EReal.coe_add]
  induction s using Finset.induction_on with
  | empty => simp
  | insert a s ha ih =>
    rw [Finset.sum_insert ha, Finset.sum_insert ha, ih, hs s, ← EReal.coe_mul, ← EReal.coe_mul, ← EReal.coe_add, ← EReal.coe_add,
      ← EReal.coe_mul, add_mul]

/-- A bias added once for each element of a set is the bias times the number of elements. -/
theorem sum_bias (s : Finset ι) (b : EReal) : ∑ _x ∈ s, b = (∑ _x ∈ s, (1 : EReal)) * b := by
  rw [← sum_mul_nonneg s (fun _ => 1) (fun _ _ => zero_le_one) b]
  simp

variable {K : ℕ}

/-- Summing products with a bias, given that each product sums: the product of the sums and the bias times the number. -/
theorem sum_affine (s : Finset ι) (v : ι → Fin K → EReal) (w : Fin K → EReal) (b : EReal)
    (h : ∀ k, ∑ x ∈ s, v x k * w k = (∑ x ∈ s, v x k) * w k) :
    ∑ x ∈ s, ((∑ k, v x k * w k) + b) = (∑ k, (∑ x ∈ s, v x k) * w k) + (∑ _x ∈ s, (1 : EReal)) * b := by
  rw [Finset.sum_add_distrib, Finset.sum_comm, sum_bias s b]
  exact congrArg (· + _) (Finset.sum_congr rfl fun k _ => h k)

/-- The linearity where the rows have no negative entry. -/
theorem sum_affine_nonneg (s : Finset ι) (v : ι → Fin K → EReal) (w : Fin K → EReal) (b : EReal) (hv : ∀ x k, 0 ≤ v x k) :
    ∑ x ∈ s, ((∑ k, v x k * w k) + b) = (∑ k, (∑ x ∈ s, v x k) * w k) + (∑ _x ∈ s, (1 : EReal)) * b :=
  sum_affine s v w b fun k => sum_mul_nonneg s (fun x => v x k) (fun x _ => hv x k) (w k)

/-- The linearity where rows and weights are finite; the bias may be anything. -/
theorem sum_affine_finite (s : Finset ι) (v : ι → Fin K → EReal) (w : Fin K → EReal) (b : EReal)
    (hv : ∀ x k, ∃ r : ℝ, v x k = (r : EReal)) (hw : ∀ k, ∃ r : ℝ, w k = (r : EReal)) :
    ∑ x ∈ s, ((∑ k, v x k * w k) + b) = (∑ k, (∑ x ∈ s, v x k) * w k) + (∑ _x ∈ s, (1 : EReal)) * b :=
  sum_affine s v w b fun k => by
    choose f hf using fun x => hv x k
    obtain ⟨r, hr⟩ := hw k
    simp only [hf, hr]
    exact sum_mul_real s f r

end Cert.Mesh
-- ==== Proof.Reference.lean ====
/-
  What the reference computes, layer by layer, at any reading of the floats. Its one composed result term is these layers
  put together.
-/
module

public import proofs.«01_k».proof.Proof.Host
public import proofs.«01_k».proof.Proof.Gen.ReferenceIdeal.Run

@[expose] public section

set_option maxRecDepth 16384

noncomputable section

namespace Cert.Mesh.Ref

open Cert.ReferenceIdeal Cert.ReferenceIdeal.Gen Idealize.ShloMosaic Idealize.ShloMosaic.TcCoe Idealize.SL.Sem

variable {F : FTy → Type} [FloatOps F]

/-- Rows of three entries through a linear layer with 256 outputs. -/
def linear256 (v : FVec F S50000x3 .f32) (w : FVec F S256x3 .f32) (b : FVec F S256 .f32) : FVec F S50000x256 .f32 :=
  addf (Host.dotGeneral dot_S50000x3_S3x256_S50000x256_1_0_0_1_n_n none v (transpose S3x256 [1, 0] w transposes_S256x3_S3x256_1_0))
    (broadcastInDim S50000x256 ![0, 1] bcast_S1x256_S50000x256_0_1 (broadcastInDim S1x256 ![1] bcast_S256_S1x256_1 b))

/-- Rows of 256 entries through a linear layer with 512 outputs. -/
def linear512 (x : FVec F S50000x256 .f32) (w : FVec F S512x256 .f32) (b : FVec F S512 .f32) : FVec F S50000x512 .f32 :=
  addf (Host.dotGeneral dot_S50000x256_S256x512_S50000x512_1_0_0_1_n_n none x (transpose S256x512 [1, 0] w transposes_S512x256_S256x512_1_0))
    (broadcastInDim S50000x512 ![0, 1] bcast_S1x512_S50000x512_0_1 (broadcastInDim S1x512 ![1] bcast_S512_S1x512_1 b))

/-- Rows of 256 entries summed over each vertex's neighbours, both directions of every edge. -/
def sumNeighbours256 (x : FVec F S50000x256 .f32) (c0 c1 : IVec S800000x1 32) : FVec F S50000x256 .f32 :=
  Host.scatterAdd scatter_S50000x256_S800000x1_S800000x256_1_0_0_1
    (Host.scatterAdd scatter_S50000x256_S800000x1_S800000x256_1_0_0_1
      (broadcastInDim S50000x256 ![] bcast_S_S50000x256 (constant (F := F) S_ .f32 0x00000000#32)) c0
      (Host.gather gather_S50000x256_S800000x1_S800000x256_1_0_n_n_0_1_1256 x c1)) c1
    (Host.gather gather_S50000x256_S800000x1_S800000x256_1_0_n_n_0_1_1256 x c0)

/-- Rows of 512 entries summed over each vertex's neighbours. -/
def sumNeighbours512 (x : FVec F S50000x512 .f32) (c0 c1 : IVec S800000x1 32) : FVec F S50000x512 .f32 :=
  Host.scatterAdd scatter_S50000x512_S800000x1_S800000x512_1_0_0_1
    (Host.scatterAdd scatter_S50000x512_S800000x1_S800000x512_1_0_0_1
      (broadcastInDim S50000x512 ![] bcast_S_S50000x512 (constant (F := F) S_ .f32 0x00000000#32)) c0
      (Host.gather gather_S50000x512_S800000x1_S800000x512_1_0_n_n_0_1_1512 x c1)) c1
    (Host.gather gather_S50000x512_S800000x1_S800000x512_1_0_n_n_0_1_1512 x c0)

/-- The first convolution before its positive part: the vertex's own layer and the neighbours' layer summed. -/
def conv1 (v : FVec F S50000x3 .f32) (c0 c1 : IVec S800000x1 32) (w0 : FVec F S256x3 .f32) (b0 : FVec F S256 .f32)
    (w1 : FVec F S256x3 .f32) (b1 : FVec F S256 .f32) : FVec F S50000x256 .f32 :=
  addf (linear256 v w0 b0) (sumNeighbours256 (linear256 v w1 b1) c0 c1)

/-- The second convolution before its positive part. -/
def conv2 (x : FVec F S50000x256 .f32) (c0 c1 : IVec S800000x1 32) (w0 : FVec F S512x256 .f32) (b0 : FVec F S512 .f32)
    (w1 : FVec F S512x256 .f32) (b1 : FVec F S512 .f32) : FVec F S50000x512 .f32 :=
  addf (linear512 x w0 b0) (sumNeighbours512 (linear512 x w1 b1) c0 c1)

/-- The positive part of a matrix of 256 columns. -/
def positive256 (x : FVec F S50000x256 .f32) : FVec F S50000x256 .f32 :=
  maximumf x (broadcastInDim S50000x256 ![] bcast_S_S50000x256 (constant (F := F) S_ .f32 0x00000000#32))

/-- The positive part of a matrix of 512 columns. -/
def positive512 (x : FVec F S50000x512 .f32) : FVec F S50000x512 .f32 :=
  maximumf x (broadcastInDim S50000x512 ![] bcast_S_S50000x512 (constant (F := F) S_ .f32 0x00000000#32))

/-- The maximum of every column over the vertices. -/
def pooled (x : FVec F S50000x512 .f32) : FVec F S512 .f32 :=
  Host.reduce FloatOps.maximumf x (constant S_ .f32 0xFF800000#32) reducesTo_S50000x512_S512_d0 h_S_

/-- The hidden layer of the pooled features. -/
def hidden (p : FVec F S512 .f32) (w : FVec F S1024x512 .f32) (b : FVec F S1024 .f32) : FVec F S1024 .f32 :=
  maximumf
    (addf (Host.dotGeneral dot_S512_S512x1024_S1024_0_0_n_1_n_n none p (transpose S512x1024 [1, 0] w transposes_S1024x512_S512x1024_1_0)) b)
    (broadcastInDim S1024 ![] bcast_S_S1024 (constant (F := F) S_ .f32 0x00000000#32))

/-- The decoder: a linear layer and the logistic function. -/
def image (h : FVec F S1024 .f32) (w : FVec F S49152x1024 .f32) (b : FVec F S49152 .f32) : FVec F S49152 .f32 :=
  Host.divf (broadcastInDim S49152 ![] bcast_S_S49152 (constant (F := F) S_ .f32 0x3F800000#32))
    (addf (broadcastInDim S49152 ![] bcast_S_S49152 (constant (F := F) S_ .f32 0x3F800000#32))
      (Host.exp (Host.negf
        (addf (Host.dotGeneral dot_S1024_S1024x49152_S49152_0_0_n_1_n_n none h (transpose S1024x49152 [1, 0] w transposes_S49152x1024_S1024x49152_1_0)) b))))

/-- The image of three planes of 128 by 128, every entry repeated four times in both directions. -/
def enlarged (x : FVec F S1x3x128x128 .f32) : FVec F S1x3x512x512 .f32 :=
  shapeCast _ (broadcastInDim S1x3x512x128x4 ![0, 1, 2, 3] bcast_S1x3x512x128_S1x3x512x128x4_0_1_2_3
    (shapeCast _ (broadcastInDim S1x3x128x4x128 ![0, 1, 2, 4] bcast_S1x3x128x128_S1x3x128x4x128_0_1_2_4 x)
      shapeCasts_S1x3x128x4x128_S1x3x512x128)) shapeCasts_S1x3x512x128x4_S1x3x512x512

/-- The reference's result of its arguments. -/
def result (v : FVec F S50000x3 .f32) (e : IVec S800000x2 32) (w10 : FVec F S256x3 .f32) (b10 : FVec F S256 .f32)
    (w11 : FVec F S256x3 .f32) (b11 : FVec F S256 .f32) (w20 : FVec F S512x256 .f32) (b20 : FVec F S512 .f32)
    (w21 : FVec F S512x256 .f32) (b21 : FVec F S512 .f32) (w3 : FVec F S1024x512 .f32) (b3 : FVec F S1024 .f32)
    (w4 : FVec F S49152x1024 .f32) (b4 : FVec F S49152 .f32) : FVec F S1x3x512x512 .f32 :=
  enlarged (shapeCast _ (image (hidden (pooled (positive512 (conv2 (positive256
      (conv1 v (asColumn (ends0 e)) (asColumn (ends1 e)) w10 b10 w11 b11))
    (asColumn (ends0 e)) (asColumn (ends1 e)) w20 b20 w21 b21))) w3 b3) w4 b4) shapeCasts_S49152_S1x3x128x128)

variable (m : (ℓ : Loc nD τ sig) → Buf (Elt F) ℓ) (c : Dev nD)

/-- The reference's composed result term is the layers of its arguments. -/
theorem result_eq : Cert.ReferenceIdeal.Value.res_main_v116 m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) := rfl

end Cert.Mesh.Ref

end
-- ==== Proof.Layers.lean ====
/-
  The two convolutions over the extended reals, read at one entry in both programs, and the equalities between them: the
  kernel sums the neighbours' rows and multiplies once, the reference multiplies every vertex's row and sums.
-/
module

public import proofs.«01_k».proof.Proof.Rows
public import proofs.«01_k».proof.Proof.Linear
public import proofs.«01_k».proof.Proof.Reference

@[expose] public section

set_option maxRecDepth 16384

noncomputable section

namespace Cert.Mesh

open Cert.KernelIdeal Cert.KernelIdeal.Gen Idealize.ShloMosaic Idealize.ShloMosaic.ValueIdx
open scoped BigOperators

/-- Two matrices equal at every row and column are equal. -/
theorem ext_ix2 {α : Type} {M N : Nat} {x y : (⟨2, ![M, N]⟩ : Shape).Idx → α} (h : ∀ r c, x (ix2 r c) = y (ix2 r c)) : x = y :=
  funext fun i => by rw [eq_ix2 i]; exact h _ _

/-- There are vertices. -/
theorem vertices_pos : 0 < 50000 := by decide

/-- Rounding leaves an extended real as it is. -/
theorem rounded_ideal {s : Shape} (x : FVec Ideal s .f32) : rounded x = x := rfl

/-! ## Parts that both programs have -/

/-- A matrix product with a transposed matrix and a bias, at an entry. -/
theorem linear_apply {M K N : Nat} (prec : Option ContractPrecision) (x : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    (addf (Host.dotGeneral (DotDims.plain M K N) prec x (transpose ⟨2, ![K, N]⟩ [1, 0] w ht))
      (broadcastInDim ⟨2, ![M, N]⟩ ![0, 1] h2 (broadcastInDim ⟨2, ![1, N]⟩ ![1] h1 b)) (ix2 r c) : EReal)
      = (∑ k, x (ix2 r k) * w (ix2 c k)) + b (ix1 c) := by
  rw [addf_apply, hostDot_apply, bias_apply]
  exact congrArg (· + _) (Finset.sum_congr rfl fun k _ => congrArg (_ * ·) (transpose_ix2_apply w ht k c))

/-- Linear layers summed over the neighbours, where the rows have no negative entry: the layer of the summed rows, with the
    bias times the number of neighbours. -/
theorem overNeighbours_nonneg {N E K : Nat} (hN : 0 < N) (c0 c1 : IVec ⟨2, ![E, 1]⟩ 32) (v : Fin N → Fin K → EReal) (w : Fin K → EReal)
    (b : EReal) (hv : ∀ j k, 0 ≤ v j k) (n : Fin N) :
    overNeighbours hN c0 c1 (fun j => (∑ k, v j k * w k) + b) n
      = (∑ k, overNeighbours hN c0 c1 (fun j => v j k) n * w k) + overNeighbours hN c0 c1 (fun _ => 1) n * b :=
  sum_affine_nonneg _ (fun e k => v (Sum.elim (readRow N hN c1) (readRow N hN c0) e) k) w b (fun e k => hv _ k)

/-- The same where the rows and the weights are finite. -/
theorem overNeighbours_finite {N E K : Nat} (hN : 0 < N) (c0 c1 : IVec ⟨2, ![E, 1]⟩ 32) (v : Fin N → Fin K → EReal) (w : Fin K → EReal)
    (b : EReal) (hv : ∀ j k, ∃ r : ℝ, v j k = (r : EReal)) (hw : ∀ k, ∃ r : ℝ, w k = (r : EReal)) (n : Fin N) :
    overNeighbours hN c0 c1 (fun j => (∑ k, v j k * w k) + b) n
      = (∑ k, overNeighbours hN c0 c1 (fun j => v j k) n * w k) + overNeighbours hN c0 c1 (fun _ => 1) n * b :=
  sum_affine_finite _ (fun e k => v (Sum.elim (readRow N hN c1) (readRow N hN c0) e) k) w b (fun e k => hv _ k) hw

/-- Two summands added one after the other are their sum added. -/
theorem add_layers {a s d t : EReal} (h : t = s + d) : (a + s) + d = a + t := by rw [h, add_assoc]

/-! ## The first convolution -/

section First
variable (v : FVec Ideal S50000x3 .f32) (c0 c1 : IVec S800000x1 32) (w0 w1 : FVec Ideal S256x3 .f32) (b0 b1 : FVec Ideal S256 .f32)

/-- The appended column is ones and the others are the vertices' coordinates. -/
theorem withOnes_coord (n : Fin 50000) (k : Fin 3) : withOnes v (ix2 n ⟨k.val, by omega⟩) = v (ix2 n k) :=
  append_left v _ _ n _ k rfl

/-- The fourth entry of every vertex's row is one. -/
theorem withOnes_one (n : Fin 50000) : (withOnes v (ix2 n 3) : EReal) = 1 := by
  refine (append_right (N1 := 3) (N2 := 1) v _ _ n 3 0 rfl).trans ?_
  rw [broadcastInDim_scalar_apply]
  exact Ideal.ofBits_one_f32

/-- The four-entry rows' sums are sums over the neighbours. -/
theorem sumNeighbours4_apply (x : FVec Ideal S50000x4 .f32) (n : Fin 50000) (k : Fin 4) :
    (sumNeighbours4 x c0 c1 (ix2 n k) : EReal) = overNeighbours vertices_pos c0 c1 (fun j => x (ix2 j k)) n :=
  both_ways_apply vertices_pos _ _ _ x c0 c1 n k

/-- The numbers of neighbours are sums of ones. -/
theorem degrees_apply (n : Fin 50000) : (degrees v c0 c1 (ix2 n 0) : EReal) = overNeighbours vertices_pos c0 c1 (fun _ => 1) n := by
  refine (columns_apply 3 _ _ n 0 (3 : Fin 4) (by decide)).trans ?_
  rw [sumNeighbours4_apply]
  simp only [withOnes_one]

/-- The kernel's first convolution at an entry. -/
theorem conv1_apply (n : Fin 50000) (c : Fin 256) : (conv1 v c0 c1 w0 b0 w1 b1 (ix2 n c) : EReal) =
    (((∑ k, v (ix2 n k) * w0 (ix2 c k)) + b0 (ix1 c))
      + ∑ k, overNeighbours vertices_pos c0 c1 (fun j => v (ix2 j k)) n * w1 (ix2 c k))
      + overNeighbours vertices_pos c0 c1 (fun _ => 1) n * b1 (ix1 c) := by
  unfold conv1
  rw [addf_apply, addf_apply, mulf_apply]
  refine congrArg₂ (· + ·) (congrArg₂ (· + ·) (linear_apply (some .fp32) v w0 b0 _ _ _ n c) ?_) (congrArg₂ (· * ·) ?_ ?_)
  · refine (hostDot_apply (some .fp32) _ _ n c).trans (Finset.sum_congr rfl fun k _ => congrArg₂ (· * ·) ?_ ?_)
    · refine (columns_apply 0 _ _ n k ⟨k.val, by omega⟩ (by simp)).trans ?_
      rw [sumNeighbours4_apply]
      simp only [withOnes_coord]
    · exact transpose_ix2_apply _ _ _ _
  · exact (column_apply _ _ n c).trans (degrees_apply v c0 c1 n)
  · exact bias_apply _ _ b1 n c

/-- The reference's first convolution at an entry. -/
theorem ref_conv1_apply (n : Fin 50000) (c : Fin 256) : (Ref.conv1 v c0 c1 w0 b0 w1 b1 (ix2 n c) : EReal) =
    ((∑ k, v (ix2 n k) * w0 (ix2 c k)) + b0 (ix1 c))
      + overNeighbours vertices_pos c0 c1 (fun j => (∑ k, v (ix2 j k) * w1 (ix2 c k)) + b1 (ix1 c)) n := by
  unfold Ref.conv1
  rw [addf_apply]
  refine congrArg₂ (· + ·) (linear_apply none v w0 b0 _ _ _ n c) ?_
  refine (both_ways_apply vertices_pos _ _ _ (Ref.linear256 v w1 b1) c0 c1 n c).trans ?_
  exact congrArg (fun f => overNeighbours vertices_pos c0 c1 f n) (funext fun j => linear_apply none v w1 b1 _ _ _ j c)

/-- The first convolutions agree where the vertices' coordinates and the neighbours' weights are finite. -/
theorem conv1_eq (hv : ∀ n k, ∃ r : ℝ, (v (ix2 n k) : EReal) = (r : EReal)) (hw : ∀ c k, ∃ r : ℝ, (w1 (ix2 c k) : EReal) = (r : EReal)) :
    conv1 v c0 c1 w0 b0 w1 b1 = Ref.conv1 v c0 c1 w0 b0 w1 b1 :=
  ext_ix2 (M := 50000) (N := 256) fun n c => by
    refine (conv1_apply v c0 c1 w0 w1 b0 b1 n c).trans (Eq.trans ?_ (ref_conv1_apply v c0 c1 w0 w1 b0 b1 n c).symm)
    exact add_layers (overNeighbours_finite vertices_pos c0 c1 (fun j k => v (ix2 j k)) (fun k => w1 (ix2 c k)) (b1 (ix1 c)) hv (hw c) n)

end First

/-! ## The second convolution -/

section Second
variable (x : FVec Ideal S50000x256 .f32) (v : FVec Ideal S50000x3 .f32) (c0 c1 : IVec S800000x1 32) (w0 w1 : FVec Ideal S512x256 .f32)
  (b0 b1 : FVec Ideal S512 .f32)

/-- The kernel's second convolution at an entry. -/
theorem conv2_apply (n : Fin 50000) (c : Fin 512) : (conv2 x (degrees v c0 c1) c0 c1 w0 b0 w1 b1 (ix2 n c) : EReal) =
    (((∑ k, x (ix2 n k) * w0 (ix2 c k)) + b0 (ix1 c))
      + ∑ k, overNeighbours vertices_pos c0 c1 (fun j => x (ix2 j k)) n * w1 (ix2 c k))
      + overNeighbours vertices_pos c0 c1 (fun _ => 1) n * b1 (ix1 c) := by
  unfold conv2
  rw [addf_apply, addf_apply, mulf_apply, rounded_ideal, rounded_ideal]
  refine congrArg₂ (· + ·) (congrArg₂ (· + ·) ?_ ?_) (congrArg₂ (· * ·) ?_ ?_)
  · rw [addf_apply]
    refine congrArg₂ (· + ·) ?_ (bias_apply _ _ b0 n c)
    refine (hostDot_apply none _ _ n c).trans (Finset.sum_congr rfl fun k _ => congrArg₂ (· * ·) rfl ?_)
    exact transpose_ix2_apply _ _ _ _
  · refine (hostDot_apply (some .fp32) _ _ n c).trans (Finset.sum_congr rfl fun k _ => congrArg₂ (· * ·) ?_ ?_)
    · exact both_ways_apply vertices_pos _ _ _ x c0 c1 n k
    · exact transpose_ix2_apply _ _ _ _
  · exact (column_apply _ _ n c).trans (degrees_apply v c0 c1 n)
  · exact bias_apply _ _ b1 n c

/-- The reference's second convolution at an entry. -/
theorem ref_conv2_apply (n : Fin 50000) (c : Fin 512) : (Ref.conv2 x c0 c1 w0 b0 w1 b1 (ix2 n c) : EReal) =
    ((∑ k, x (ix2 n k) * w0 (ix2 c k)) + b0 (ix1 c))
      + overNeighbours vertices_pos c0 c1 (fun j => (∑ k, x (ix2 j k) * w1 (ix2 c k)) + b1 (ix1 c)) n := by
  unfold Ref.conv2
  rw [addf_apply]
  refine congrArg₂ (· + ·) (linear_apply none x w0 b0 _ _ _ n c) ?_
  refine (both_ways_apply vertices_pos _ _ _ (Ref.linear512 x w1 b1) c0 c1 n c).trans ?_
  exact congrArg (fun f => overNeighbours vertices_pos c0 c1 f n) (funext fun j => linear_apply none x w1 b1 _ _ _ j c)

/-- The second convolutions agree where their input has no negative entry. -/
theorem conv2_eq (hx : ∀ n k, 0 ≤ (x (ix2 n k) : EReal)) :
    conv2 x (degrees v c0 c1) c0 c1 w0 b0 w1 b1 = Ref.conv2 x c0 c1 w0 b0 w1 b1 :=
  ext_ix2 (M := 50000) (N := 512) fun n c => by
    refine (conv2_apply x v c0 c1 w0 w1 b0 b1 n c).trans (Eq.trans ?_ (ref_conv2_apply x c0 c1 w0 w1 b0 b1 n c).symm)
    exact add_layers (overNeighbours_nonneg vertices_pos c0 c1 (fun j k => x (ix2 j k)) (fun k => w1 (ix2 c k)) (b1 (ix1 c)) hx n)

end Second

/-- A positive part has no negative entry. -/
theorem positive256_nonneg (x : FVec Ideal S50000x256 .f32) (n : Fin 50000) (k : Fin 256) : 0 ≤ (positive256 x (ix2 n k) : EReal) := by
  unfold positive256
  rw [maximumf_apply, broadcastInDim_scalar_apply]
  exact (le_of_eq Ideal.ofBits_zero_f32.symm).trans (le_max_right _ _)

/-- Both convolutions with their positive parts, and the maximum over the vertices, agree where the vertices' coordinates
    and the first layer's weights for the neighbours are finite. -/
theorem features_eq (v : FVec Ideal S50000x3 .f32) (c0 c1 : IVec S800000x1 32) (w10 w11 : FVec Ideal S256x3 .f32) (b10 b11 : FVec Ideal S256 .f32)
    (w20 w21 : FVec Ideal S512x256 .f32) (b20 b21 : FVec Ideal S512 .f32)
    (hv : ∀ n k, ∃ r : ℝ, (v (ix2 n k) : EReal) = (r : EReal)) (hw : ∀ c k, ∃ r : ℝ, (w11 (ix2 c k) : EReal) = (r : EReal)) :
    pooled (positive512 (conv2 (positive256 (conv1 v c0 c1 w10 b10 w11 b11)) (degrees v c0 c1) c0 c1 w20 b20 w21 b21))
      = Ref.pooled (Ref.positive512 (Ref.conv2 (Ref.positive256 (Ref.conv1 v c0 c1 w10 b10 w11 b11)) c0 c1 w20 b20 w21 b21)) := by
  rw [conv2_eq _ _ _ _ _ _ _ _ (positive256_nonneg _), conv1_eq v c0 c1 w10 w11 b10 b11 hv hw]
  rfl

end Cert.Mesh

end
-- ==== Proof.Decoder.lean ====
/-
  The tiled decoder over the extended reals: every column of its output row is the reference's image of the same column.
-/
module

public import proofs.«01_k».proof.Proof.Grid
public import proofs.«01_k».proof.Proof.Prefix
public import proofs.«01_k».proof.Proof.Layers

@[expose] public section

set_option maxRecDepth 16384

noncomputable section

namespace Cert.Mesh

open Cert.KernelIdeal Cert.KernelIdeal.Gen Idealize.ShloMosaic Idealize.ShloMosaic.TcCoe Idealize.SL.Sem Idealize.ShloMosaic.ValueIdx
open scoped BigOperators

/-! ## The two bodies at an entry -/

/-- A product on the matrix unit with a transposed matrix, from zero, at an entry of its one row. -/
theorem row_product {K N : Nat} (x : FVec Ideal ⟨2, ![1, K]⟩ .f32) (w : FVec Ideal ⟨2, ![N, K]⟩ .f32)
    (ht : (⟨2, ![N, K]⟩ : Shape).Transposes [1, 0] ⟨2, ![K, N]⟩) (j : Fin N) :
    (matmul (DotDims.plain 1 K N) none (truncf .bf16 x bitsLt_bf16_f32) (truncf .bf16 (transpose ⟨2, ![K, N]⟩ [1, 0] w ht) bitsLt_bf16_f32)
      (constant (F := Ideal) ⟨2, ![1, N]⟩ .f32 0x00000000#32) (ix2 0 j) : EReal) = ∑ k, x (ix2 0 k) * w (ix2 j k) := by
  refine (Ideal.matmul_plain_apply none _ _ _ 0 j).trans ?_
  have hz : (constant (F := Ideal) ⟨2, ![1, N]⟩ .f32 0x00000000#32 (ix2 0 j) : EReal) = 0 := Ideal.ofBits_zero_f32
  rw [hz, zero_add]
  exact Finset.sum_congr rfl fun k _ => congrArg (_ * ·) (transpose_ix2_apply w ht k j)

/-- The first point's row, of the features and the bias laid out as rows, is the reference's hidden layer. -/
theorem hidden_entry (p : FVec Ideal S512 .f32) (w : FVec Ideal S1024x512 .f32) (b : FVec Ideal S1024 .f32) (j : Fin 1024) :
    k0_pay1 (shapeCast _ p shapeCasts_S512_S1x512) w (shapeCast _ b shapeCasts_S1024_S1x1024) (ix2 0 j) = Ref.hidden p w b (ix1 j) := by
  unfold k0_pay1 Ref.hidden
  dsimp only
  rw [shapeCast_self, shapeCast_self, shapeCast_self, maximumf_apply, maximumf_apply, addf_apply, addf_apply, broadcastInDim_scalar_apply]
  refine congrArg₂ max (congrArg₂ (· + ·) ?_ (shapeCast_a_1a_apply b _ 0 j)) rfl
  refine (row_product _ w _ j).trans (Eq.trans ?_ (hostVecDot_apply _ none p _ j).symm)
  exact Finset.sum_congr rfl fun k _ => congrArg₂ (· * ·) (shapeCast_a_1a_apply p _ 0 k) (transpose_ix2_apply w _ k j).symm

/-- A point's block at an entry: the logistic function of the row's product and the bias. -/
theorem block_entry (h : FVec Ideal S1x1024 .f32) (w : FVec Ideal S2048x1024 .f32) (b : FVec Ideal S1x2048 .f32) (j : Fin 2048) :
    (k0_pay2 (F := Ideal) h w b (ix2 0 j) : EReal) = Ideal.logistic ((∑ k, h (ix2 0 k) * w (ix2 j k)) + b (ix2 0 j)) := by
  unfold k0_pay2
  dsimp only
  rw [shapeCast_self]
  exact congrArg (fun z : EReal => Ideal.logistic (z + b (ix2 0 j))) (row_product h w _ j)

/-- The reference's image at an entry: the same. -/
theorem image_entry (h : FVec Ideal S1024 .f32) (w : FVec Ideal S49152x1024 .f32) (b : FVec Ideal S49152 .f32) (n : Fin 49152) :
    (Ref.image h w b (ix1 n) : EReal) = Ideal.logistic ((∑ k, h (ix1 k) * w (ix2 n k)) + b (ix1 n)) := by
  have hd : (Host.dotGeneral Cert.ReferenceIdeal.dot_S1024_S1024x49152_S49152_0_0_n_1_n_n none h
      (transpose Cert.ReferenceIdeal.S1024x49152 [1, 0] w Cert.ReferenceIdeal.Gen.transposes_S49152x1024_S1024x49152_1_0) (ix1 n) : EReal)
      = ∑ k, h (ix1 k) * w (ix2 n k) :=
    (hostVecDot_apply _ none h _ n).trans (Finset.sum_congr rfl fun k _ => congrArg (_ * ·) (transpose_ix2_apply w _ k n))
  unfold Ref.image
  rw [hostDivf_apply, addf_apply, broadcastInDim_scalar_apply]
  have h1 : (constant (F := Ideal) S_ .f32 0x3F800000#32 ix0 : EReal) = 1 := Ideal.ofBits_one_f32
  exact (congrArg₂ Ideal.div h1 (congrArg₂ (· + ·) h1 (congrArg (fun z : EReal => Ideal.exp (-(z + b (ix1 n)))) hd)))

/-! ## The windows' blocks -/

/-- The windows of the hidden layer's operands stay at their start. -/
theorem features_index : ∀ t : Fin cfg0.N, win0_0.index t = ![0, 0] :=
  (by decide +kernel : ∀ t : Fin grid0.N, win0_0.index t = ![0, 0])

/-- The hidden layer's weights' window starts at the origin at every point. -/
theorem hidden_weights_index : ∀ t : Fin cfg0.N, win0_1.index t = ![0, 0] :=
  (by decide +kernel : ∀ t : Fin grid0.N, win0_1.index t = ![0, 0])

/-- The hidden layer's bias' window starts at the origin at every point. -/
theorem hidden_bias_index : ∀ t : Fin cfg0.N, win0_2.index t = ![0, 0] :=
  (by decide +kernel : ∀ t : Fin grid0.N, win0_2.index t = ![0, 0])

/-- The decoder's weights' window at point `t` is block `t` of the rows, and its bias' is block `t` of the columns. -/
theorem weights_index : ∀ t : Fin cfg0.N, win0_3.index t = ![t.val, 0] :=
  (by decide +kernel : ∀ t : Fin grid0.N, win0_3.index t = ![t.val, 0])

/-- The decoder's bias' window moves by one block along the columns with every point. -/
theorem bias_index : ∀ t : Fin cfg0.N, win0_4.index t = ![0, t.val] :=
  (by decide +kernel : ∀ t : Fin grid0.N, win0_4.index t = ![0, t.val])

/-- The features' window is the whole row, -/
theorem read0 (A : FVec Ideal S1x512 .f32) : ((cfg0.win 0).blk pt0).view.read (Elt Ideal) A = A := by
  have e0 : win0_0.index pt0 (0 : Fin 2) = 0 := congrFun (features_index _) 0
  have e1 : win0_0.index pt0 (1 : Fin 2) = 0 := congrFun (features_index _) 1
  refine funext fun y => congrArg A (funext fun a => Fin.ext ?_)
  match a with
  | ⟨0, _⟩ => show win0_0.index pt0 (0 : Fin 2) * 1 + 1 * (y 0).val = (y 0).val; rw [e0]; omega
  | ⟨1, _⟩ => show win0_0.index pt0 (1 : Fin 2) * 512 + 1 * (y 1).val = (y 1).val; rw [e1]; omega

/-- the hidden layer's weights' the whole matrix, -/
theorem read1 (A : FVec Ideal S1024x512 .f32) : ((cfg0.win 1).blk pt0).view.read (Elt Ideal) A = A := by
  have e0 : win0_1.index pt0 (0 : Fin 2) = 0 := congrFun (hidden_weights_index _) 0
  have e1 : win0_1.index pt0 (1 : Fin 2) = 0 := congrFun (hidden_weights_index _) 1
  refine funext fun y => congrArg A (funext fun a => Fin.ext ?_)
  match a with
  | ⟨0, _⟩ => show win0_1.index pt0 (0 : Fin 2) * 1024 + 1 * (y 0).val = (y 0).val; rw [e0]; omega
  | ⟨1, _⟩ => show win0_1.index pt0 (1 : Fin 2) * 512 + 1 * (y 1).val = (y 1).val; rw [e1]; omega

/-- and its bias' the whole row. -/
theorem read2 (A : FVec Ideal S1x1024 .f32) : ((cfg0.win 2).blk pt0).view.read (Elt Ideal) A = A := by
  have e0 : win0_2.index pt0 (0 : Fin 2) = 0 := congrFun (hidden_bias_index _) 0
  have e1 : win0_2.index pt0 (1 : Fin 2) = 0 := congrFun (hidden_bias_index _) 1
  refine funext fun y => congrArg A (funext fun a => Fin.ext ?_)
  match a with
  | ⟨0, _⟩ => show win0_2.index pt0 (0 : Fin 2) * 1 + 1 * (y 0).val = (y 0).val; rw [e0]; omega
  | ⟨1, _⟩ => show win0_2.index pt0 (1 : Fin 2) * 1024 + 1 * (y 1).val = (y 1).val; rw [e1]; omega

/-- Row `n` of the decoder's weights lies in the block of column `n`'s point. -/
theorem read3 (A : FVec Ideal S49152x1024 .f32) (n : Fin 49152) (k : Fin 1024) :
    ((cfg0.win 3).blk (colPt n)).view.read (Elt Ideal) A (ix2 ⟨n.val % 2048, Nat.mod_lt _ (by decide)⟩ k) = A (ix2 n k) := by
  have e0 : win0_3.index (colPt n) (0 : Fin 2) = n.val / 2048 := congrFun (weights_index _) 0
  have e1 : win0_3.index (colPt n) (1 : Fin 2) = 0 := congrFun (weights_index _) 1
  refine congrArg A (funext fun a => Fin.ext ?_)
  match a with
  | ⟨0, _⟩ => show win0_3.index (colPt n) (0 : Fin 2) * 2048 + 1 * (n.val % 2048) = n.val; rw [e0]; omega
  | ⟨1, _⟩ => show win0_3.index (colPt n) (1 : Fin 2) * 1024 + 1 * k.val = k.val; rw [e1]; omega

/-- Entry `n` of its bias lies there too. -/
theorem read4 (A : FVec Ideal S1x49152 .f32) (n : Fin 49152) :
    ((cfg0.win 4).blk (colPt n)).view.read (Elt Ideal) A (ix2 0 ⟨n.val % 2048, Nat.mod_lt _ (by decide)⟩) = A (ix2 0 n) := by
  have e0 : win0_4.index (colPt n) (0 : Fin 2) = 0 := congrFun (bias_index _) 0
  have e1 : win0_4.index (colPt n) (1 : Fin 2) = n.val / 2048 := congrFun (bias_index _) 1
  refine congrArg A (funext fun a => Fin.ext ?_)
  match a with
  | ⟨0, _⟩ => show win0_4.index (colPt n) (0 : Fin 2) * 1 + 1 * 0 = 0; rw [e0]
  | ⟨1, _⟩ => show win0_4.index (colPt n) (1 : Fin 2) * 2048 + 1 * (n.val % 2048) = n.val; rw [e1]; omega

section Blocks
variable (m : (ℓ : Loc nD τ sig) → Buf (Elt Ideal) ℓ) (c : Dev nD)

/-- The kept row is the reference's hidden layer of whatever features the first operand lays out as a row. -/
theorem hiddenRow_entry (p : FVec Ideal S512 .f32) (hp : V m c main_v101 = shapeCast _ p shapeCasts_S512_S1x512) (j : Fin 1024) :
    hiddenRow m c (ix2 0 j) = Ref.hidden p (m ((c : Thread nD τ).loc main_arg10)) (m ((c : Thread nD τ).loc main_arg11)) (ix1 j) := by
  unfold hiddenRow
  have e0 : iblk m c 0 pt0 = shapeCast _ p shapeCasts_S512_S1x512 := (read0 (V m c main_v101)).trans hp
  have e1 : iblk m c 1 pt0 = m ((c : Thread nD τ).loc main_arg10) := (read1 (V m c main_arg10)).trans (V_main_arg10 m c)
  have e2 : iblk m c 2 pt0 = shapeCast _ (m ((c : Thread nD τ).loc main_arg11)) shapeCasts_S1024_S1x1024 :=
    (read2 (V m c main_v102)).trans (operand_bias3 m c)
  rw [e0, e1, e2]
  exact hidden_entry p _ _ j

/-- The decoder's output row is the reference's image of those features. -/
theorem decoded_entry (p : FVec Ideal S512 .f32) (hp : V m c main_v101 = shapeCast _ p shapeCasts_S512_S1x512) (n : Fin 49152) :
    decoded m c (ix2 0 n) = Ref.image (Ref.hidden p (m ((c : Thread nD τ).loc main_arg10)) (m ((c : Thread nD τ).loc main_arg11)))
      (m ((c : Thread nD τ).loc main_arg12)) (m ((c : Thread nD τ).loc main_arg13)) (ix1 n) := by
  refine (block_entry (hiddenRow m c) (iblk m c 3 (colPt n)) (iblk m c 4 (colPt n)) ⟨n.val % 2048, Nat.mod_lt _ (by decide)⟩).trans
    (Eq.trans ?_ (image_entry _ _ _ n).symm)
  refine congrArg Ideal.logistic (congrArg₂ (· + ·) (Finset.sum_congr rfl fun k _ => congrArg₂ (· * ·) ?_ ?_) ?_)
  · exact hiddenRow_entry m c p hp k
  · exact (read3 (V m c main_arg12) n k).trans (congrFun (V_main_arg12 m c) _)
  · exact (read4 (V m c main_v103) n).trans ((congrFun (operand_bias4 m c) _).trans (shapeCast_a_1a_apply _ _ 0 n))

end Blocks

end Cert.Mesh

end
-- ==== Proof.Finite.lean ====
/-
  The precondition read: the vertices and the first layer's neighbour weights are real numbers.
-/
module

public import proofs.«01_k».proof.Defs
public import Idealize.ShloMosaic.Lib.StableHlo.Predicate
public import Idealize.ShloMosaic.Lib.ReduceAll
public import Idealize.ShloMosaic.Lib.Pipeline.Value

@[expose] public section

noncomputable section

namespace Cert.Mesh

open Idealize.ShloMosaic Cert.Pre_first_layer_finite

/-- The shape relations that the precondition's operations take. -/
theorem finite_facts : Cert.Pre_first_layer_finite.Facts := ⟨by decide, by decide, by decide, by decide, by decide⟩

/-- An extended real whose absolute value is below infinity is a real number. -/
theorem real_of_abs_lt (x : EReal) (h : max x (-x) < ⊤) : ∃ r : ℝ, x = r := by
  induction x with
  | bot => exact absurd h (by simp)
  | coe r => exact ⟨r, rfl⟩
  | top => exact absurd h (by simp)

/-- A reduction by "and" of the comparisons of an array's absolute values with infinity, where it is true, makes every entry real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, (x i : EReal) = r := by
  have : Subsingleton S_.Idx := ⟨fun a b => funext fun k => k.elim0⟩
  have h := Host.reduce_andi_all _ _ hr hu j e i
  have htop : (constant (F := Ideal) S_ .f32 0x7F800000#32 (fun k => k.elim0) : EReal) = ⊤ := by
    show Ideal.ofBits .f32 0x7F800000#32 = ⊤
    simp [Ideal.ofBits, Ideal.ieee]
  have h' : Ideal.cmp .olt (max (x i : EReal) (-(x i : EReal))) ⊤ = 1#1 := by
    rw [← htop]
    exact h
  refine real_of_abs_lt _ ?_
  simpa [Ideal.cmp, StableHlo.Predicate.ofBool_eq_one_iff] using h'

/-- The vertices, as launched. -/
abbrev launched0 (m : (ℓ : Loc Cert.KernelIdeal.nD Cert.KernelIdeal.τ Cert.KernelIdeal.sig) → Buf (Elt Ideal) ℓ) (c : Dev Cert.KernelIdeal.nD) : FVec Ideal S50000x3 .f32 :=
  m ((c.tc : Thread Cert.KernelIdeal.nD Cert.KernelIdeal.τ).loc Cert.KernelIdeal.main_arg0)
/-- The first layer's neighbour weights, as launched. -/
abbrev launched4 (m : (ℓ : Loc Cert.KernelIdeal.nD Cert.KernelIdeal.τ Cert.KernelIdeal.sig) → Buf (Elt Ideal) ℓ) (c : Dev Cert.KernelIdeal.nD) : FVec Ideal S256x3 .f32 :=
  m ((c.tc : Thread Cert.KernelIdeal.nD Cert.KernelIdeal.τ).loc Cert.KernelIdeal.main_arg4)

/-- Where the precondition holds, the vertices and the first layer's neighbour weights are real. -/
theorem finite_of_pre [Cert.Pre_first_layer_finite.Facts] (m : (ℓ : Loc Cert.KernelIdeal.nD Cert.KernelIdeal.τ Cert.KernelIdeal.sig) → Buf (Elt Ideal) ℓ)
    (h : Cert.Pre_KernelIdeal_first_layer_finite m) (c : Dev Cert.KernelIdeal.nD) :
    (∀ i, ∃ r : ℝ, (launched0 m c i : EReal) = r)
      ∧ ∀ i, ∃ r : ℝ, (launched4 m c i : EReal) = r := by
  have e := congrFun (h c) (fun k => k.elim0)
  obtain ⟨e0, e4⟩ := IntOp.andi_eq_one.1 e
  exact ⟨fun i => real_of_all _ _ _ _ _ e0 i, fun i => real_of_all _ _ _ _ _ e4 i⟩

end Cert.Mesh

end
-- ==== Proof.Tail.lean ====
/-
  The lines after the region, and the whole program: its result is the reference's result of the same arguments wherever
  the vertices and the first layer's neighbour weights are finite.
-/
module

public import proofs.«01_k».proof.Proof.Decoder
public import proofs.«01_k».proof.Proof.Finite
public import Idealize.ShloMosaic.Lib.Pointwise.Reshape

@[expose] public section

set_option maxRecDepth 16384

noncomputable section

namespace Cert.Mesh

open Cert.KernelIdeal Cert.KernelIdeal.Gen Idealize.ShloMosaic Idealize.ShloMosaic.TcCoe Idealize.SL.Sem

/-- The last lines lay the region's row out as three planes and enlarge each fourfold. -/
theorem tail_enlarged {F : FTy → Type} [FloatOps F] (W : Valuation τ sig (Elt F)) : at' (StableHlo.after hostOps1 W) main_v109 =
    Ref.enlarged (shapeCast _ (at' W main_v104) shapeCasts_S1x49152_S1x3x128x128) := by
  show StableHlo.after hostOps1 W (Proc.devRef .tc main_v109) = _
  after_results_simp
  rfl

/-- A vector read as planes is its one-row matrix read as planes. -/
theorem planes_of_row (y : S1x49152.Idx → EReal) (x : S49152.Idx → EReal) (h : ∀ n : Fin 49152, y (ValueIdx.ix2 0 n) = x (ValueIdx.ix1 n)) :
    shapeCast S1x3x128x128 y shapeCasts_S1x49152_S1x3x128x128
      = shapeCast S1x3x128x128 x Cert.ReferenceIdeal.Gen.shapeCasts_S49152_S1x3x128x128 := by
  have hr : S49152.ShapeCasts S1x49152 := shapeCasts_S49152_S1x49152
  have e : y = shapeCast S1x49152 x hr := by
    funext i
    rw [ValueIdx.eq_ix2 i, show i 0 = (0 : Fin 1) from Fin.ext (by have h0 : (i 0).val < 1 := (i 0).isLt; show (i 0).val = 0; omega)]
    exact (h (i 1)).trans (ValueIdx.shapeCast_a_1a_apply x hr 0 (i 1)).symm
  rw [e, shapeCast_comp]

variable (m : (ℓ : Loc nD τ sig) → Buf (Elt Ideal) ℓ) (c : Dev nD)

/-- What the program leaves in its result. -/
def written : FVec Ideal S1x3x512x512 .f32 := Pipeline.afterTail₀ cfgs (dats m) 0 (V0 m) [hostOps1] c main_v109

/-- It is made of the region's output row. -/
theorem result_row : written m c =
    Ref.enlarged (F := Ideal) (shapeCast _ (decoded m c) shapeCasts_S1x49152_S1x3x128x128) := by
  unfold written Pipeline.afterTail₀
  refine (tail_enlarged _).trans (congrArg (fun z => Ref.enlarged (F := Ideal) (shapeCast _ z shapeCasts_S1x49152_S1x3x128x128)) ?_)
  exact (Pipeline.withArrays_arr spec0 winFacts0.arr_inj c (V0 m c) _ 5).trans (array_after m c)

/-- The features that reach the decoder are the reference's, where the first layer's vertices and neighbour weights are finite. -/
theorem features_reference (v : FVec Ideal S50000x3 .f32) (e : IVec S800000x2 32) (w10 : FVec Ideal S256x3 .f32) (b10 : FVec Ideal S256 .f32)
    (w11 : FVec Ideal S256x3 .f32) (b11 : FVec Ideal S256 .f32) (w20 : FVec Ideal S512x256 .f32) (b20 : FVec Ideal S512 .f32)
    (w21 : FVec Ideal S512x256 .f32) (b21 : FVec Ideal S512 .f32)
    (hv : ∀ n k, ∃ r : ℝ, (v (ValueIdx.ix2 n k) : EReal) = r) (hw : ∀ c k, ∃ r : ℝ, (w11 (ValueIdx.ix2 c k) : EReal) = r) :
    features v e w10 b10 w11 b11 w20 b20 w21 b21 = Ref.pooled (Ref.positive512 (Ref.conv2 (Ref.positive256
      (Ref.conv1 v (asColumn (ends0 e)) (asColumn (ends1 e)) w10 b10 w11 b11)) (asColumn (ends0 e)) (asColumn (ends1 e)) w20 b20 w21 b21)) :=
  features_eq v _ _ w10 w11 b10 b11 w20 w21 b20 b21 hv hw

/-- The program's result is the reference's result of its arguments, where the first layer's are finite. -/
theorem result_reference (hv : ∀ n k, ∃ r : ℝ, (launched0 m c (ValueIdx.ix2 n k) : EReal) = r)
    (hw : ∀ j k, ∃ r : ℝ, (launched4 m c (ValueIdx.ix2 j k) : EReal) = r) :
    written m c =
      Ref.result (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (result_row m c).trans (congrArg Ref.enlarged (planes_of_row _ _ fun n => ?_))
  refine decoded_entry m c _ ((operand_features m c).trans (congrArg (fun z => shapeCast _ z shapeCasts_S512_S1x512) ?_)) n
  exact features_reference _ _ _ _ _ _ _ _ _ _ hv hw

end Cert.Mesh

end
-- ==== Proof.lean ====
/-
  The proof of `Cert.Claim`: the three programs run and leave their arguments alone, and the kernel's result over the
  extended reals is the reference's, where the vertices and the first layer's neighbour weights are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import Idealize.ShloMosaic.Adequacy
public import Idealize.ShloMosaic.Init
public import Idealize.ShloMosaic.Lib.Claim

@[expose] public section

noncomputable section

namespace Cert.Proof

open Idealize.ShloMosaic Idealize.SL.Sem

/-- The reference runs, leaves its arguments alone, and ends with every counter at zero. -/
theorem reference_frame :
    Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, where the precondition holds, both programs end with the same result. -/
theorem same_result : Cert.algebraic_KernelIdeal_ReferenceIdeal_pre_first_layer_finite (hKernelIdeal := Cert.KernelIdeal.Gen.facts)
    (hReferenceIdeal := Cert.ReferenceIdeal.Gen.facts) (hPre_first_layer_finite := Cert.Mesh.finite_facts) := by
  intro m g m' g' hpre hargs
  refine ⟨fun c => Cert.Mesh.written m c, ?_, ?_⟩
  · refine (θ_run Cert.KernelIdeal.defs _ _).mono (fun r h c => ⟨?_, h.2 c⟩)
      (θ_run_and (Cert.KernelIdeal.Gen.run_main m g) (Cert.KernelIdeal.Gen.unchanged m g))
    exact (h.1 c).2 Cert.KernelIdeal.main_v109 (Pipeline.mem_restRefs_of Cert.KernelIdeal.main_v109 (by decide) (by decide))
  · refine (θ_run Cert.ReferenceIdeal.defs _ _).mono (fun r h c => ⟨(h c).1.trans ?_, (h c).2⟩)
      (Cert.ReferenceIdeal.Value.run (F := Ideal) m' g')
    letI := Cert.Mesh.finite_facts
    obtain ⟨hv, hw⟩ := Cert.Mesh.finite_of_pre m hpre c
    obtain ⟨e0, e1, e2, e3, e4, e5, e6, e7, e8, e9, e10, e11, e12, e13⟩ := hargs c
    refine (Cert.Mesh.Ref.result_eq m' c).trans ?_
    rw [e0, e1, e2, e3, e4, e5, e6, e7, e8, e9, e10, e11, e12, e13]
    exact (Cert.Mesh.result_reference m c (fun n k => hv _) (fun j k => hw _)).symm

/-- All that is claimed. -/
theorem claim : Cert.Claim :=
  ⟨Cert.Kernel.Gen.facts, Cert.KernelIdeal.Gen.facts, Cert.ReferenceIdeal.Gen.facts, Cert.Mesh.finite_facts,
    fun m ρ _ => Cert.Kernel.Gen.frame m ρ, fun m ρ _ => Cert.KernelIdeal.Gen.frame m ρ, fun m ρ _ => Cert.KernelIdeal.Gen.frame m ρ,
    fun m ρ _ => reference_frame m ρ trivial, fun m ρ _ => reference_frame m ρ trivial, trivial, same_result⟩

end Cert.Proof

end
